-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_in_range [hPre_scales_in_range : Cert.Pre_scales_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_scales_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_in_range [hPre_scales_in_range : Cert.Pre_scales_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_scales_in_range [hKernelIdeal : Cert.KernelIdeal.Facts] [hPre_scales_in_range : Cert.Pre_scales_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_scales_in_range [hReferenceIdeal : Cert.ReferenceIdeal.Facts] [hPre_scales_in_range : Cert.Pre_scales_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_scales_in_range [hKernelIdeal : Cert.KernelIdeal.Facts] [hReferenceIdeal : Cert.ReferenceIdeal.Facts] [hPre_scales_in_range : Cert.Pre_scales_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_scales_in_range : Cert.Pre_scales_in_range.Facts),
    quiescent_Kernel (hKernel := hKernel)
    ∧ quiescent_KernelIdeal (hKernelIdeal := hKernelIdeal)
    ∧ quiescent_KernelIdeal_pre_scales_in_range (hKernelIdeal := hKernelIdeal) (hPre_scales_in_range := hPre_scales_in_range)
    ∧ quiescent_ReferenceIdeal (hReferenceIdeal := hReferenceIdeal)
    ∧ quiescent_ReferenceIdeal_pre_scales_in_range (hReferenceIdeal := hReferenceIdeal) (hPre_scales_in_range := hPre_scales_in_range)
    ∧ preserves_Kernel_KernelIdeal
    ∧ algebraic_KernelIdeal_ReferenceIdeal_pre_scales_in_range (hKernelIdeal := hKernelIdeal) (hReferenceIdeal := hReferenceIdeal) (hPre_scales_in_range := hPre_scales_in_range)
-- ==== Pre_scales_in_range.lean ====
abbrev S8x1x4096 : Shape := ⟨3, ![8, 1, 4096]⟩
abbrev S14336x2048 : Shape := ⟨2, ![14336, 2048]⟩
abbrev S14336x128 : Shape := ⟨2, ![14336, 128]⟩
abbrev S_ : Shape := ⟨0, ![]⟩

class Facts : Prop where
  bcast_S_S14336x128 : S_.BroadcastsInDim S14336x128 (![] : Fin 0 → Fin S14336x128.rank)

variable [Facts]

def fn {F : FTy → Type} [FloatOps F] (main_arg0 : FVec F S8x1x4096 .bf16) (main_arg1 : IVec S14336x2048 8) (main_arg2 : IVec S14336x128 8) : IVec S14336x128 1 :=
  let main_c : IVec S_ 8 := constantI S_ 8 0#8
  let main_v0 : IVec S14336x128 8 := broadcastInDim S14336x128 ![] bcast_S_S14336x128 main_c
  let main_v1 : IVec S14336x128 1 := cmpi .ne main_arg2 main_v0
  let main_c_0 : IVec S_ 8 := constantI S_ 8 255#8
  let main_v2 : IVec S14336x128 8 := broadcastInDim S14336x128 ![] bcast_S_S14336x128 main_c_0
  let main_v3 : IVec S14336x128 1 := cmpi .ne main_arg2 main_v2
  let main_v4 : IVec S14336x128 1 := andi main_v1 main_v3
  main_v4
-- ==== Kernel.lean ====
abbrev S8x1x4096 : Shape := ⟨3, ![8, 1, 4096]⟩
abbrev S14336x2048 : Shape := ⟨2, ![14336, 2048]⟩
abbrev S14336x128 : Shape := ⟨2, ![14336, 128]⟩
abbrev S8x4096 : Shape := ⟨2, ![8, 4096]⟩
abbrev S8x14336 : Shape := ⟨2, ![8, 14336]⟩
abbrev S16x64x256 : Shape := ⟨3, ![16, 64, 256]⟩
abbrev S128x512 : Shape := ⟨2, ![128, 512]⟩
abbrev S28 : Shape := ⟨1, ![28]⟩
abbrev S_ : Shape := ⟨0, ![]⟩
abbrev S1 : Shape := ⟨1, ![1]⟩
abbrev S512x2048 : Shape := ⟨2, ![512, 2048]⟩
abbrev S64x256 : Shape := ⟨2, ![64, 256]⟩
abbrev S8x256 : Shape := ⟨2, ![8, 256]⟩
abbrev S1x64x256 : Shape := ⟨3, ![1, 64, 256]⟩
abbrev S512x128 : Shape := ⟨2, ![512, 128]⟩
abbrev S8x512 : Shape := ⟨2, ![8, 512]⟩
abbrev S256x512 : Shape := ⟨2, ![256, 512]⟩
abbrev S64x512 : Shape := ⟨2, ![64, 512]⟩
abbrev S1x512 : Shape := ⟨2, ![1, 512]⟩
abbrev S8x1x14336 : Shape := ⟨3, ![8, 1, 14336]⟩

abbrev nBuf : Space → Nat
  | .hbm => 6
  | .vmem => 6
  | .smem => 0
  | _ => 0

abbrev bufTy : (tb : Table) → Fin (tcTables nBuf tb) → BufTy
  | .hbm, ⟨0, _⟩ => ⟨S8x1x4096, .bf16⟩
  | .hbm, ⟨1, _⟩ => ⟨S14336x2048, .i8⟩
  | .hbm, ⟨2, _⟩ => ⟨S14336x128, .i8⟩
  | .hbm, ⟨3, _⟩ => ⟨S8x4096, .bf16⟩
  | .hbm, ⟨4, _⟩ => ⟨S8x14336, .bf16⟩
  | .hbm, ⟨5, _⟩ => ⟨S8x1x14336, .bf16⟩
  | .local _ .vmem, ⟨0, _⟩ => ⟨S8x4096, .bf16⟩
  | .local _ .vmem, ⟨1, _⟩ => ⟨S8x14336, .bf16⟩
  | .local _ .vmem, ⟨2, _⟩ => ⟨S14336x2048, .i8⟩
  | .local _ .vmem, ⟨3, _⟩ => ⟨S14336x128, .i8⟩
  | .local _ .vmem, ⟨4, _⟩ => ⟨S16x64x256, .bf16⟩
  | .local _ .vmem, ⟨5, _⟩ => ⟨S128x512, .f32⟩
  | _, _ => ⟨S8x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

@[reducible] def k0_t1_loop : Scf.Loop 32 :=
  let c0_i32_162 : BitVec 32 := 0#32
  let c28_i32 : BitVec 32 := 28#32
  let v323 : BitVec 32 := Scalar.addi c0_i32_162 c28_i32
  let c1_i32_163 : BitVec 32 := 1#32
  ⟨c0_i32_162, v323, c1_i32_163⟩
def k0_mult1 (k0_t1 : Fin k0_t1_loop.trips) : BitVec 32 :=
  let c0_i32_162 : BitVec 32 := 0#32
  let c1_i32_163 : BitVec 32 := 1#32
  let arg10 : BitVec 32 := Scf.iv c0_i32_162 c1_i32_163 k0_t1
  let c512_i32_165 : BitVec 32 := 512#32
  let v324 : BitVec 32 := Scalar.muli arg10 c512_i32_165
  v324
def k0_off1 (k0_t1 : Fin k0_t1_loop.trips) : Fin 1 → Nat :=
  let c0_i32_162 : BitVec 32 := 0#32
  let c1_i32_163 : BitVec 32 := 1#32
  let arg10 : BitVec 32 := Scf.iv c0_i32_162 c1_i32_163 k0_t1
  ![arg10.toNat]
def k0_off2 (k0_t1 : Fin k0_t1_loop.trips) : Fin 2 → Nat :=
  let c0_i32_162 : BitVec 32 := 0#32
  let c1_i32_163 : BitVec 32 := 1#32
  let arg10 : BitVec 32 := Scf.iv c0_i32_162 c1_i32_163 k0_t1
  let c512_i32_166 : BitVec 32 := 512#32
  let v326 : BitVec 32 := Scalar.muli arg10 c512_i32_166
  let c0_i32_167 : BitVec 32 := 0#32
  ![v326.toNat, 0]
def k0_off3 (k0_t1 : Fin k0_t1_loop.trips) : Fin 2 → Nat :=
  let c0_i32_162 : BitVec 32 := 0#32
  let c1_i32_163 : BitVec 32 := 1#32
  let arg10 : BitVec 32 := Scf.iv c0_i32_162 c1_i32_163 k0_t1
  let c512_i32_165 : BitVec 32 := 512#32
  let v324 : BitVec 32 := Scalar.muli arg10 c512_i32_165
  let v325 : BitVec 32 := v324
  let v331 : Index := Scalar.indexCast v325
  let c0_169 : Index := 0#32
  ![v331.toNat, 0]
def k0_off4 (k0_t1 : Fin k0_t1_loop.trips) : Fin 2 → Nat :=
  let c0_i32_162 : BitVec 32 := 0#32
  let c1_i32_163 : BitVec 32 := 1#32
  let arg10 : BitVec 32 := Scf.iv c0_i32_162 c1_i32_163 k0_t1
  let c512_i32_165 : BitVec 32 := 512#32
  let v324 : BitVec 32 := Scalar.muli arg10 c512_i32_165
  let v325 : BitVec 32 := v324
  let v342 : Index := Scalar.indexCast v325
  let c0_174 : Index := 0#32
  ![v342.toNat, 0]
def k0_off5 (k0_t1 : Fin k0_t1_loop.trips) : Fin 2 → Nat :=
  let c0_i32_162 : BitVec 32 := 0#32
  let c1_i32_163 : BitVec 32 := 1#32
  let arg10 : BitVec 32 := Scf.iv c0_i32_162 c1_i32_163 k0_t1
  let c512_i32_165 : BitVec 32 := 512#32
  let v324 : BitVec 32 := Scalar.muli arg10 c512_i32_165
  let v325 : BitVec 32 := v324
  let v430 : Index := Scalar.indexCast v325
  let c128 : Index := 128#32
  ![v430.toNat, 128]
def k0_off6 (k0_t1 : Fin k0_t1_loop.trips) : Fin 2 → Nat :=
  let c0_i32_162 : BitVec 32 := 0#32
  let c1_i32_163 : BitVec 32 := 1#32
  let arg10 : BitVec 32 := Scf.iv c0_i32_162 c1_i32_163 k0_t1
  let c512_i32_165 : BitVec 32 := 512#32
  let v324 : BitVec 32 := Scalar.muli arg10 c512_i32_165
  let v325 : BitVec 32 := v324
  let v518 : Index := Scalar.indexCast v325
  let c256_248 : Index := 256#32
  ![v518.toNat, 256]
def k0_off7 (k0_t1 : Fin k0_t1_loop.trips) : Fin 2 → Nat :=
  let c0_i32_162 : BitVec 32 := 0#32
  let c1_i32_163 : BitVec 32 := 1#32
  let arg10 : BitVec 32 := Scf.iv c0_i32_162 c1_i32_163 k0_t1
  let c512_i32_165 : BitVec 32 := 512#32
  let v324 : BitVec 32 := Scalar.muli arg10 c512_i32_165
  let v325 : BitVec 32 := v324
  let v606 : Index := Scalar.indexCast v325
  let c384 : Index := 384#32
  ![v606.toNat, 384]
def k0_off8 (k0_t1 : Fin k0_t1_loop.trips) : Fin 2 → Nat :=
  let c0_i32_162 : BitVec 32 := 0#32
  let c1_i32_163 : BitVec 32 := 1#32
  let arg10 : BitVec 32 := Scf.iv c0_i32_162 c1_i32_163 k0_t1
  let c512_i32_165 : BitVec 32 := 512#32
  let v324 : BitVec 32 := Scalar.muli arg10 c512_i32_165
  let v325 : BitVec 32 := v324
  let v694 : Index := Scalar.indexCast v325
  let c512_307 : Index := 512#32
  ![v694.toNat, 512]
def k0_off9 (k0_t1 : Fin k0_t1_loop.trips) : Fin 2 → Nat :=
  let c0_i32_162 : BitVec 32 := 0#32
  let c1_i32_163 : BitVec 32 := 1#32
  let arg10 : BitVec 32 := Scf.iv c0_i32_162 c1_i32_163 k0_t1
  let c512_i32_165 : BitVec 32 := 512#32
  let v324 : BitVec 32 := Scalar.muli arg10 c512_i32_165
  let v325 : BitVec 32 := v324
  let v782 : Index := Scalar.indexCast v325
  let c640 : Index := 640#32
  ![v782.toNat, 640]
def k0_off10 (k0_t1 : Fin k0_t1_loop.trips) : Fin 2 → Nat :=
  let c0_i32_162 : BitVec 32 := 0#32
  let c1_i32_163 : BitVec 32 := 1#32
  let arg10 : BitVec 32 := Scf.iv c0_i32_162 c1_i32_163 k0_t1
  let c512_i32_165 : BitVec 32 := 512#32
  let v324 : BitVec 32 := Scalar.muli arg10 c512_i32_165
  let v325 : BitVec 32 := v324
  let v870 : Index := Scalar.indexCast v325
  let c768_366 : Index := 768#32
  ![v870.toNat, 768]
def k0_off11 (k0_t1 : Fin k0_t1_loop.trips) : Fin 2 → Nat :=
  let c0_i32_162 : BitVec 32 := 0#32
  let c1_i32_163 : BitVec 32 := 1#32
  let arg10 : BitVec 32 := Scf.iv c0_i32_162 c1_i32_163 k0_t1
  let c512_i32_165 : BitVec 32 := 512#32
  let v324 : BitVec 32 := Scalar.muli arg10 c512_i32_165
  let v325 : BitVec 32 := v324
  let v958 : Index := Scalar.indexCast v325
  let c896 : Index := 896#32
  ![v958.toNat, 896]
def k0_off12 (k0_t1 : Fin k0_t1_loop.trips) : Fin 2 → Nat :=
  let c0_i32_162 : BitVec 32 := 0#32
  let c1_i32_163 : BitVec 32 := 1#32
  let arg10 : BitVec 32 := Scf.iv c0_i32_162 c1_i32_163 k0_t1
  let c512_i32_165 : BitVec 32 := 512#32
  let v324 : BitVec 32 := Scalar.muli arg10 c512_i32_165
  let v325 : BitVec 32 := v324
  let v1046 : Index := Scalar.indexCast v325
  let c1024_425 : Index := 1024#32
  ![v1046.toNat, 1024]
def k0_off13 (k0_t1 : Fin k0_t1_loop.trips) : Fin 2 → Nat :=
  let c0_i32_162 : BitVec 32 := 0#32
  let c1_i32_163 : BitVec 32 := 1#32
  let arg10 : BitVec 32 := Scf.iv c0_i32_162 c1_i32_163 k0_t1
  let c512_i32_165 : BitVec 32 := 512#32
  let v324 : BitVec 32 := Scalar.muli arg10 c512_i32_165
  let v325 : BitVec 32 := v324
  let v1134 : Index := Scalar.indexCast v325
  let c1152 : Index := 1152#32
  ![v1134.toNat, 1152]
def k0_off14 (k0_t1 : Fin k0_t1_loop.trips) : Fin 2 → Nat :=
  let c0_i32_162 : BitVec 32 := 0#32
  let c1_i32_163 : BitVec 32 := 1#32
  let arg10 : BitVec 32 := Scf.iv c0_i32_162 c1_i32_163 k0_t1
  let c512_i32_165 : BitVec 32 := 512#32
  let v324 : BitVec 32 := Scalar.muli arg10 c512_i32_165
  let v325 : BitVec 32 := v324
  let v1222 : Index := Scalar.indexCast v325
  let c1280_484 : Index := 1280#32
  ![v1222.toNat, 1280]
def k0_off15 (k0_t1 : Fin k0_t1_loop.trips) : Fin 2 → Nat :=
  let c0_i32_162 : BitVec 32 := 0#32
  let c1_i32_163 : BitVec 32 := 1#32
  let arg10 : BitVec 32 := Scf.iv c0_i32_162 c1_i32_163 k0_t1
  let c512_i32_165 : BitVec 32 := 512#32
  let v324 : BitVec 32 := Scalar.muli arg10 c512_i32_165
  let v325 : BitVec 32 := v324
  let v1310 : Index := Scalar.indexCast v325
  let c1408 : Index := 1408#32
  ![v1310.toNat, 1408]
def k0_off16 (k0_t1 : Fin k0_t1_loop.trips) : Fin 2 → Nat :=
  let c0_i32_162 : BitVec 32 := 0#32
  let c1_i32_163 : BitVec 32 := 1#32
  let arg10 : BitVec 32 := Scf.iv c0_i32_162 c1_i32_163 k0_t1
  let c512_i32_165 : BitVec 32 := 512#32
  let v324 : BitVec 32 := Scalar.muli arg10 c512_i32_165
  let v325 : BitVec 32 := v324
  let v1398 : Index := Scalar.indexCast v325
  let c1536_543 : Index := 1536#32
  ![v1398.toNat, 1536]
def k0_off17 (k0_t1 : Fin k0_t1_loop.trips) : Fin 2 → Nat :=
  let c0_i32_162 : BitVec 32 := 0#32
  let c1_i32_163 : BitVec 32 := 1#32
  let arg10 : BitVec 32 := Scf.iv c0_i32_162 c1_i32_163 k0_t1
  let c512_i32_165 : BitVec 32 := 512#32
  let v324 : BitVec 32 := Scalar.muli arg10 c512_i32_165
  let v325 : BitVec 32 := v324
  let v1486 : Index := Scalar.indexCast v325
  let c1664 : Index := 1664#32
  ![v1486.toNat, 1664]
def k0_off18 (k0_t1 : Fin k0_t1_loop.trips) : Fin 2 → Nat :=
  let c0_i32_162 : BitVec 32 := 0#32
  let c1_i32_163 : BitVec 32 := 1#32
  let arg10 : BitVec 32 := Scf.iv c0_i32_162 c1_i32_163 k0_t1
  let c512_i32_165 : BitVec 32 := 512#32
  let v324 : BitVec 32 := Scalar.muli arg10 c512_i32_165
  let v325 : BitVec 32 := v324
  let v1574 : Index := Scalar.indexCast v325
  let c1792_602 : Index := 1792#32
  ![v1574.toNat, 1792]
def k0_off19 (k0_t1 : Fin k0_t1_loop.trips) : Fin 2 → Nat :=
  let c0_i32_162 : BitVec 32 := 0#32
  let c1_i32_163 : BitVec 32 := 1#32
  let arg10 : BitVec 32 := Scf.iv c0_i32_162 c1_i32_163 k0_t1
  let c512_i32_165 : BitVec 32 := 512#32
  let v324 : BitVec 32 := Scalar.muli arg10 c512_i32_165
  let v325 : BitVec 32 := v324
  let v1662 : Index := Scalar.indexCast v325
  let c1920 : Index := 1920#32
  ![v1662.toNat, 1920]
def k0_off20 (k0_t1 : Fin k0_t1_loop.trips) : Fin 2 → Nat :=
  let c0_661 : Index := 0#32
  let c0_i32_162 : BitVec 32 := 0#32
  let c1_i32_163 : BitVec 32 := 1#32
  let arg10 : BitVec 32 := Scf.iv c0_i32_162 c1_i32_163 k0_t1
  let c512_i32_165 : BitVec 32 := 512#32
  let v324 : BitVec 32 := Scalar.muli arg10 c512_i32_165
  let v325 : BitVec 32 := v324
  let v1751 : Index := Scalar.indexCast v325
  ![0, v1751.toNat]
abbrev stage0_0 : Fin 1 → Memref sig .tc .vmem S8x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x14336 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8x1x4096 : Shape := ⟨3, ![8, 1, 4096]⟩
abbrev S14336x2048 : Shape := ⟨2, ![14336, 2048]⟩
abbrev S14336x128 : Shape := ⟨2, ![14336, 128]⟩
abbrev S_ : Shape := ⟨0, ![]⟩
abbrev S14336x2048x1 : Shape := ⟨3, ![14336, 2048, 1]⟩
abbrev S14336x2048x2 : Shape := ⟨3, ![14336, 2048, 2]⟩
abbrev S14336x128x32 : Shape := ⟨3, ![14336, 128, 32]⟩
abbrev S14336x128x1 : Shape := ⟨3, ![14336, 128, 1]⟩
abbrev S14336x4096 : Shape := ⟨2, ![14336, 4096]⟩
abbrev S8x1x14336 : Shape := ⟨3, ![8, 1, 14336]⟩

abbrev nBuf : Space → Nat
  | .hbm => 78
  | .vmem => 0
  | .smem => 0
  | _ => 0

abbrev bufTy : (tb : Table) → Fin (tcTables nBuf tb) → BufTy
  | .hbm, ⟨0, _⟩ => ⟨S8x1x4096, .bf16⟩
  | .hbm, ⟨1, _⟩ => ⟨S14336x2048, .i8⟩
  | .hbm, ⟨2, _⟩ => ⟨S14336x128, .i8⟩
  | .hbm, ⟨3, _⟩ => ⟨S14336x2048, .i32⟩
  | .hbm, ⟨4, _⟩ => ⟨S_, .i32⟩
  | .hbm, ⟨5, _⟩ => ⟨S14336x2048, .i32⟩
  | .hbm, ⟨6, _⟩ => ⟨S14336x2048, .i32⟩
  | .hbm, ⟨7, _⟩ => ⟨S_, .i32⟩
  | .hbm, ⟨8, _⟩ => ⟨S14336x2048, .i32⟩
  | .hbm, ⟨9, _⟩ => ⟨S14336x2048, .i32⟩
  | .hbm, ⟨10, _⟩ => ⟨S14336x2048x1, .i32⟩
  | .hbm, ⟨11, _⟩ => ⟨S14336x2048x1, .i32⟩
  | .hbm, ⟨12, _⟩ => ⟨S14336x2048x2, .i32⟩
  | .hbm, ⟨13, _⟩ => ⟨S14336x128x32, .i32⟩
  | .hbm, ⟨14, _⟩ => ⟨S14336x128, .i32⟩
  | .hbm, ⟨15, _⟩ => ⟨S_, .i32⟩
  | .hbm, ⟨16, _⟩ => ⟨S14336x128, .i32⟩
  | .hbm, ⟨17, _⟩ => ⟨S14336x128, .i32⟩
  | .hbm, ⟨18, _⟩ => ⟨S14336x128, .f32⟩
  | .hbm, ⟨19, _⟩ => ⟨S_, .f32⟩
  | .hbm, ⟨20, _⟩ => ⟨S14336x128, .f32⟩
  | .hbm, ⟨21, _⟩ => ⟨S14336x128, .f32⟩
  | .hbm, ⟨22, _⟩ => ⟨S14336x128, .bf16⟩
  | .hbm, ⟨23, _⟩ => ⟨S_, .i32⟩
  | .hbm, ⟨24, _⟩ => ⟨S14336x128x32, .i32⟩
  | .hbm, ⟨25, _⟩ => ⟨S14336x128x32, .i32⟩
  | .hbm, ⟨26, _⟩ => ⟨S_, .i32⟩
  | .hbm, ⟨27, _⟩ => ⟨S14336x128x32, .i32⟩
  | .hbm, ⟨28, _⟩ => ⟨S14336x128x32, .i1⟩
  | .hbm, ⟨29, _⟩ => ⟨S_, .i32⟩
  | .hbm, ⟨30, _⟩ => ⟨S14336x128x32, .i32⟩
  | .hbm, ⟨31, _⟩ => ⟨S14336x128x32, .i32⟩
  | .hbm, ⟨32, _⟩ => ⟨S_, .i32⟩
  | .hbm, ⟨33, _⟩ => ⟨S14336x128x32, .i32⟩
  | .hbm, ⟨34, _⟩ => ⟨S14336x128x32, .i1⟩
  | .hbm, ⟨35, _⟩ => ⟨S_, .i32⟩
  | .hbm, ⟨36, _⟩ => ⟨S14336x128x32, .i32⟩
  | .hbm, ⟨37, _⟩ => ⟨S14336x128x32, .i32⟩
  | .hbm, ⟨38, _⟩ => ⟨S_, .i32⟩
  | .hbm, ⟨39, _⟩ => ⟨S14336x128x32, .i32⟩
  | .hbm, ⟨40, _⟩ => ⟨S14336x128x32, .i1⟩
  | .hbm, ⟨41, _⟩ => ⟨S_, .i32⟩
  | .hbm, ⟨42, _⟩ => ⟨S14336x128x32, .i32⟩
  | .hbm, ⟨43, _⟩ => ⟨S14336x128x32, .i32⟩
  | .hbm, ⟨44, _⟩ => ⟨S_, .i32⟩
  | .hbm, ⟨45, _⟩ => ⟨S14336x128x32, .i32⟩
  | .hbm, ⟨46, _⟩ => ⟨S14336x128x32, .i1⟩
  | .hbm, ⟨47, _⟩ => ⟨S_, .bf16⟩
  | .hbm, ⟨48, _⟩ => ⟨S_, .bf16⟩
  | .hbm, ⟨49, _⟩ => ⟨S14336x128x32, .bf16⟩
  | .hbm, ⟨50, _⟩ => ⟨S14336x128x32, .bf16⟩
  | .hbm, ⟨51, _⟩ => ⟨S14336x128x32, .bf16⟩
  | .hbm, ⟨52, _⟩ => ⟨S_, .bf16⟩
  | .hbm, ⟨53, _⟩ => ⟨S_, .bf16⟩
  | .hbm, ⟨54, _⟩ => ⟨S14336x128x32, .bf16⟩
  | .hbm, ⟨55, _⟩ => ⟨S14336x128x32, .bf16⟩
  | .hbm, ⟨56, _⟩ => ⟨S14336x128x32, .bf16⟩
  | .hbm, ⟨57, _⟩ => ⟨S14336x128x32, .bf16⟩
  | .hbm, ⟨58, _⟩ => ⟨S_, .bf16⟩
  | .hbm, ⟨59, _⟩ => ⟨S_, .bf16⟩
  | .hbm, ⟨60, _⟩ => ⟨S14336x128x32, .bf16⟩
  | .hbm, ⟨61, _⟩ => ⟨S14336x128x32, .bf16⟩
  | .hbm, ⟨62, _⟩ => ⟨S14336x128x32, .bf16⟩
  | .hbm, ⟨63, _⟩ => ⟨S_, .bf16⟩
  | .hbm, ⟨64, _⟩ => ⟨S_, .bf16⟩
  | .hbm, ⟨65, _⟩ => ⟨S14336x128x32, .bf16⟩
  | .hbm, ⟨66, _⟩ => ⟨S14336x128x32, .bf16⟩
  | .hbm, ⟨67, _⟩ => ⟨S14336x128x32, .bf16⟩
  | .hbm, ⟨68, _⟩ => ⟨S14336x128x32, .bf16⟩
  | .hbm, ⟨69, _⟩ => ⟨S14336x128x32, .bf16⟩
  | .hbm, ⟨70, _⟩ => ⟨S14336x128x32, .bf16⟩
  | .hbm, ⟨71, _⟩ => ⟨S14336x128x32, .bf16⟩
  | .hbm, ⟨72, _⟩ => ⟨S14336x128x1, .bf16⟩
  | .hbm, ⟨73, _⟩ => ⟨S14336x128x32, .bf16⟩
  | .hbm, ⟨74, _⟩ => ⟨S14336x128x32, .bf16⟩
  | .hbm, ⟨75, _⟩ => ⟨S14336x4096, .bf16⟩
  | .hbm, ⟨76, _⟩ => ⟨S8x1x14336, .f32⟩
  | .hbm, ⟨77, _⟩ => ⟨S8x1x14336, .bf16⟩
  | _, _ => ⟨S8x1x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_2 : Ref sig .tc := ⟨.hbm, 23, rfl⟩
abbrev main_v16 : Ref sig .tc := ⟨.hbm, 24, rfl⟩
abbrev main_v17 : Ref sig .tc := ⟨.hbm, 25, rfl⟩
abbrev main_c_3 : Ref sig .tc := ⟨.hbm, 26, rfl⟩
abbrev main_v18 : Ref sig .tc := ⟨.hbm, 27, rfl⟩
abbrev main_v19 : Ref sig .tc := ⟨.hbm, 28, rfl⟩
abbrev main_c_4 : Ref sig .tc := ⟨.hbm, 29, rfl⟩
abbrev main_v20 : Ref sig .tc := ⟨.hbm, 30, rfl⟩
abbrev main_v21 : Ref sig .tc := ⟨.hbm, 31, rfl⟩
abbrev main_c_5 : Ref sig .tc := ⟨.hbm, 32, rfl⟩
abbrev main_v22 : Ref sig .tc := ⟨.hbm, 33, rfl⟩
abbrev main_v23 : Ref sig .tc := ⟨.hbm, 34, rfl⟩
abbrev main_c_6 : Ref sig .tc := ⟨.hbm, 35, rfl⟩
abbrev main_v24 : Ref sig .tc := ⟨.hbm, 36, rfl⟩
abbrev main_v25 : Ref sig .tc := ⟨.hbm, 37, rfl⟩
abbrev main_c_7 : Ref sig .tc := ⟨.hbm, 38, rfl⟩
abbrev main_v26 : Ref sig .tc := ⟨.hbm, 39, rfl⟩
abbrev main_v27 : Ref sig .tc := ⟨.hbm, 40, rfl⟩
abbrev main_c_8 : Ref sig .tc := ⟨.hbm, 41, rfl⟩
abbrev main_v28 : Ref sig .tc := ⟨.hbm, 42, rfl⟩
abbrev main_v29 : Ref sig .tc := ⟨.hbm, 43, rfl⟩
abbrev main_c_9 : Ref sig .tc := ⟨.hbm, 44, rfl⟩
abbrev main_v30 : Ref sig .tc := ⟨.hbm, 45, rfl⟩
abbrev main_v31 : Ref sig .tc := ⟨.hbm, 46, rfl⟩
abbrev main_cst_10 : Ref sig .tc := ⟨.hbm, 47, rfl⟩
abbrev main_cst_11 : Ref sig .tc := ⟨.hbm, 48, rfl⟩
abbrev main_call0_v0 : Ref sig .tc := ⟨.hbm, 49, rfl⟩
abbrev main_call0_v1 : Ref sig .tc := ⟨.hbm, 50, rfl⟩
abbrev main_v32 : Ref sig .tc := ⟨.hbm, 51, rfl⟩
abbrev main_cst_12 : Ref sig .tc := ⟨.hbm, 52, rfl⟩
abbrev main_cst_13 : Ref sig .tc := ⟨.hbm, 53, rfl⟩
abbrev main_call1_v0 : Ref sig .tc := ⟨.hbm, 54, rfl⟩
abbrev main_call1_v1 : Ref sig .tc := ⟨.hbm, 55, rfl⟩
abbrev main_v33 : Ref sig .tc := ⟨.hbm, 56, rfl⟩
abbrev main_v34 : Ref sig .tc := ⟨.hbm, 57, rfl⟩
abbrev main_cst_14 : Ref sig .tc := ⟨.hbm, 58, rfl⟩
abbrev main_cst_15 : Ref sig .tc := ⟨.hbm, 59, rfl⟩
abbrev main_call3_v0 : Ref sig .tc := ⟨.hbm, 60, rfl⟩
abbrev main_call3_v1 : Ref sig .tc := ⟨.hbm, 61, rfl⟩
abbrev main_v35 : Ref sig .tc := ⟨.hbm, 62, rfl⟩
abbrev main_cst_16 : Ref sig .tc := ⟨.hbm, 63, rfl⟩
abbrev main_cst_17 : Ref sig .tc := ⟨.hbm, 64, rfl⟩
abbrev main_call4_v0 : Ref sig .tc := ⟨.hbm, 65, rfl⟩
abbrev main_call4_v1 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩

abbrev nD : Nat := 1
abbrev τ : Topo := Topo.v7x

variable {F : FTy → Type} [FloatOps F]
-- ==== Proof.Setup.lean ====
/- The resources the kernel's body moves: the weight buffer cut into its 28 chunks, one semaphore cell a chunk. -/
module

public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Pipeline.FrameBody
public import Idealize.ShloMosaic.Lib.Pipeline.FrameSuffix
public import Idealize.ShloMosaic.Lib.Ring
public import Idealize.ShloMosaic.Lib.Transfers
public import Idealize.ShloMosaic.Lib.Tactic

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's algebra: the pipeline library's beside the transfers' counters. -/
local notation "𝕄" => MT nD τ sig Unit (Elt F) ℕ (Pipeline.UD sig nD τ) ℕ

/-- A chunk of 512 output rows. -/
abbrev Chunk : Type := Fin k0_t1_loop.trips

theorem trips_eq : k0_t1_loop.trips = 28 := by decide

/-- The weight codes in HBM, the scale codes in HBM, and the kernel's scratch buffers. -/
abbrev whM : Memref sig .tc .hbm S14336x2048 .i8 := Memref.whole main_arg1
abbrev shM : Memref sig .tc .hbm S14336x128 .i8 := Memref.whole main_arg2
abbrev wbM : Memref sig .tc .vmem S14336x2048 .i8 := Memref.whole cc0_scratch0
abbrev sbM : Memref sig .tc .vmem S14336x128 .i8 := Memref.whole cc0_scratch1
abbrev xmM : Memref sig .tc .vmem S16x64x256 .bf16 := Memref.whole cc0_scratch2
abbrev scM : Memref sig .tc .vmem S128x512 .f32 := Memref.whole cc0_scratch3

/-- The rectangle of chunk `k`'s 512 rows. -/
abbrev chunkRect (k : Chunk) : Rect S14336x2048 := Rect.unit (s := S14336x2048) (k0_off2 k) S512x2048.size (k0_off2_inb k)
/-- Chunk `k` of the scratch copy, and of the array in HBM. -/
abbrev wb (k : Chunk) : Memref sig .tc .vmem S512x2048 .i8 := wbM.slice (chunkRect k) (fun _ => rfl)
abbrev wh (k : Chunk) : Memref sig .tc .hbm S512x2048 .i8 := whM.slice (chunkRect k) (fun _ => rfl)
/-- Chunk `k`'s semaphore cell. -/
abbrev cellSems (k : Chunk) : DmaSems sig S_ :=
  (cc0_scratch4.slice (Rect.unit (s := S28) (k0_off1 k) S1.size (k0_off1_inb k))).squeeze S_ squeezes_S1_S_

/-- The contents of a buffer of `M`'s location on device `c`. -/
abbrev BufOf (c : Dev nD) {sp : Space} {S : Shape} {e : EltTy} (M : Memref sig .tc sp S e) : Type := Buf (Elt F) (M.view.loc (c : Thread nD τ))

/-- A load of 128 code columns of chunk `k` stays inside the chunk. -/
theorem load_in (k : Chunk) (off : Fin 2 → ℕ) (inb) (j : ℕ) (h : off = ![512 * k.val, j]) (hj : j + 128 ≤ 2048) :
    wbM.view.setOn (Rect.unit (s := S14336x2048) off S512x128.size inb).toLoadRect.set ⊆ (wb k).view.set := by
  refine Memref.setOn_subset_slice_of_within wbM (chunkRect k) (fun _ => rfl) _ ?_
  subst h
  refine decide_eq_true fun a => ?_
  have h2 := k0_off2_eq k
  have e : (chunkRect k).off = ![512 * k.val, 0] := h2
  rw [e]
  match a with
  | 0 => exact ⟨Nat.le_refl _, by show 512 * k.val + 1 * (512 - 1) < 512 * k.val + 1 * 512; omega, .inl rfl⟩
  | 1 => exact ⟨Nat.zero_le _, by show j + 1 * (128 - 1) < 0 + 1 * 2048; omega, .inl rfl⟩

/-- Chunk `k` landed: its rows of the scratch hold `fw`, the HBM rows it came from are back, its cell is at zero. -/
def done (c : Dev nD) (fh : BufOf (F := F) c whM) (fw : BufOf (F := F) c wbM) (k : Chunk) : sProp 𝕄 :=
  iprop(((wb k).view.loc (c : Thread nD τ) ↦[(wb k).view.set]{fullShare} fw)
    ∗ ((wh k).view.loc (c : Thread nD τ) ↦[(wh k).view.set]{fullShare} fh)
    ∗ semVal ((c : Thread nD τ), SemLoc.dma (cellSems k).sem) 0)

/-- Chunk `k` in flight. -/
def flying (c : Dev nD) (fh : BufOf (F := F) c whM) (fw : BufOf (F := F) c wbM) (k : Chunk) : sProp 𝕄 :=
  Transfers.Flight (countersEmb (U := Pipeline.UD sig nD τ)) (c : Thread nD τ) (SemLoc.dma (cellSems k).sem) ()
    ((wb k).view.dmaCredit)
    iprop(((wb k).view.loc (c : Thread nD τ) ↦[(wb k).view.set]{fullShare} fw)
      ∗ ((wh k).view.loc (c : Thread nD τ) ↦[(wh k).view.set]{fullShare} fh))

/-- Chunk `k`'s rows at an offset written as the kernel writes it. -/
abbrev wbO (o : Fin 2 → ℕ) (h : ∀ a, o a + S512x2048.size a ≤ S14336x2048.size a) : Memref sig .tc .vmem S512x2048 .i8 :=
  wbM.slice (Rect.unit (s := S14336x2048) o S512x2048.size h) (fun _ => rfl)
abbrev whO (o : Fin 2 → ℕ) (h : ∀ a, o a + S512x2048.size a ≤ S14336x2048.size a) : Memref sig .tc .hbm S512x2048 .i8 :=
  whM.slice (Rect.unit (s := S14336x2048) o S512x2048.size h) (fun _ => rfl)

/-- The HBM contents as contents of the scratch copy (same shape, same codes). -/
def asW (c : Dev nD) (fh : BufOf (F := F) c whM) : BufOf (F := F) c wbM := fun i => fh i
/-- The same for the scale codes. -/
def asS (c : Dev nD) (fh : BufOf (F := F) c shM) : BufOf (F := F) c sbM := fun i => fh i

/-- Two contents a view reads alike agree on the view's elements. -/
theorem eq_on_of_read_eq {κ : Kind} {sp : Space} {s : Shape} {e : EltTy} (v : View sig κ sp s e) (f g : v.ty.Contents (Elt F))
    (h : v.read (Elt F) f = v.read (Elt F) g) : ∀ i ∈ v.set, f i = g i := by
  intro i hi
  obtain ⟨x, rfl⟩ : ∃ x, v.emb x = i := by simpa [View.set] using hi
  have := congrFun h x
  rw [View.read_apply, View.read_apply] at this
  exact cast_inj _ |>.mp this

/-- A flight issued with the kernel's literal offsets is chunk `k`'s flight. -/
theorem land (c : Dev nD) (k : Chunk) (o : Fin 2 → ℕ) (h) (ho : k0_off2 k = o) (sm : DmaSem sig) (hsm : (cellSems k).sem = sm)
    (fh : BufOf (F := F) c whM) (fd : BufOf (F := F) c wbM) (x : S512x2048.Idx → Elt F .i8) (hx : x = (whO o h).view.read (Elt F) fh) :
    (Transfers.Flight (countersEmb (U := Pipeline.UD sig nD τ)) (c : Thread nD τ) (SemLoc.dma sm) () 32768
      iprop(((wbO o h).view.loc (c : Thread nD τ) ↦[(wbO o h).view.set]{fullShare} (wbO o h).view.writes (Elt F) fd [⟨Rect.whole S512x2048, x⟩])
        ∗ ((whO o h).view.loc (c : Thread nD τ) ↦[(whO o h).view.set]{fullShare} fh)) : sProp 𝕄)
      ⊢ flying c fh (asW c fh) k := by
  subst ho hsm hx
  unfold flying
  refine Transfers.Flight_mono (countersEmb (U := Pipeline.UD sig nD τ)) (c : Thread nD τ) (sep_mono (Entails.of_eq ?_) .rfl)
  refine pointsTo_congr fun i hi => ?_
  refine eq_on_of_read_eq (wb k).view _ _ ?_ i hi
  exact (View.read_writes_whole _ _ _).trans rfl

/-- A product over the chunks, written out. -/
theorem bigSep_chunks (Φ : Chunk → sProp 𝕄) :
    bigSep Finset.univ Φ = iprop(Φ ⟨0, by decide⟩ ∗ Φ ⟨1, by decide⟩ ∗ Φ ⟨2, by decide⟩ ∗ Φ ⟨3, by decide⟩ ∗ Φ ⟨4, by decide⟩ ∗ Φ ⟨5, by decide⟩ ∗ Φ ⟨6, by decide⟩ ∗ Φ ⟨7, by decide⟩ ∗ Φ ⟨8, by decide⟩ ∗ Φ ⟨9, by decide⟩ ∗ Φ ⟨10, by decide⟩ ∗ Φ ⟨11, by decide⟩ ∗ Φ ⟨12, by decide⟩ ∗ Φ ⟨13, by decide⟩ ∗ Φ ⟨14, by decide⟩ ∗ Φ ⟨15, by decide⟩ ∗ Φ ⟨16, by decide⟩ ∗ Φ ⟨17, by decide⟩ ∗ Φ ⟨18, by decide⟩ ∗ Φ ⟨19, by decide⟩ ∗ Φ ⟨20, by decide⟩ ∗ Φ ⟨21, by decide⟩ ∗ Φ ⟨22, by decide⟩ ∗ Φ ⟨23, by decide⟩ ∗ Φ ⟨24, by decide⟩ ∗ Φ ⟨25, by decide⟩ ∗ Φ ⟨26, by decide⟩ ∗ Φ ⟨27, by decide⟩) := by
  rw [BI.bigSep_eq_bigSepL_of_eq ([⟨0, by decide⟩, ⟨1, by decide⟩, ⟨2, by decide⟩, ⟨3, by decide⟩, ⟨4, by decide⟩, ⟨5, by decide⟩, ⟨6, by decide⟩, ⟨7, by decide⟩, ⟨8, by decide⟩, ⟨9, by decide⟩, ⟨10, by decide⟩, ⟨11, by decide⟩, ⟨12, by decide⟩, ⟨13, by decide⟩, ⟨14, by decide⟩, ⟨15, by decide⟩, ⟨16, by decide⟩, ⟨17, by decide⟩, ⟨18, by decide⟩, ⟨19, by decide⟩, ⟨20, by decide⟩, ⟨21, by decide⟩, ⟨22, by decide⟩, ⟨23, by decide⟩, ⟨24, by decide⟩, ⟨25, by decide⟩, ⟨26, by decide⟩, ⟨27, by decide⟩] : List Chunk) (by decide) (by decide)]; rfl

end Cert.Kernel.Hand

end
-- ==== Proof.Join.lean ====
/- Cutting the two weight buffers into their 28 chunks, and joining the chunks back. -/
module

public import proofs.«01_k».proof.Proof.Setup
public import Idealize.ShloMosaic.Lib.Pipeline.ValueKit.Geometry

@[expose] public section

set_option maxRecDepth 65536
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (Pipeline.UD sig nD τ) ℕ

/-- The rows of chunk `k`. -/
def rowsOf (k : Chunk) : Finset S14336x2048.Idx := (chunkRect k).set

theorem mem_rowsOf (k : Chunk) (i : S14336x2048.Idx) : i ∈ rowsOf k ↔ (i 0).val / 512 = k.val := by
  have hk : k.val < 28 := trips_eq ▸ k.isLt
  have h1 : (i 1).val < 2048 := (i 1).isLt
  have e := k0_off2_eq k
  unfold rowsOf chunkRect
  rw [Rect.mem_set_unit, e]
  constructor
  · intro h
    have h0 := h 0
    have l : 512 * k.val ≤ (i 0).val := h0.1
    have r : (i 0).val < 512 * k.val + 512 := h0.2
    omega
  · intro h a
    match a with
    | 0 => exact ⟨by show 512 * k.val ≤ (i 0).val; omega, by show (i 0).val < 512 * k.val + 512; omega⟩
    | 1 => exact ⟨Nat.zero_le _, by show (i 1).val < 0 + 2048; omega⟩

theorem rows_disjoint (k k' : Chunk) (h : k ≠ k') : Disjoint (rowsOf k) (rowsOf k') :=
  Finset.disjoint_left.mpr fun i hi hi' => h (Fin.ext (((mem_rowsOf k i).mp hi).symm.trans ((mem_rowsOf k' i).mp hi')))

theorem rows_cover : Finset.univ.biUnion rowsOf = Finset.univ := by
  refine Finset.eq_univ_iff_forall.mpr fun i => Finset.mem_biUnion.mpr ?_
  have h0 : (i 0).val < 14336 := (i 0).isLt
  exact ⟨⟨(i 0).val / 512, by rw [trips_eq]; omega⟩, Finset.mem_univ _, (mem_rowsOf _ _).mpr rfl⟩

theorem wb_set (k : Chunk) : (wb k).view.set = rowsOf k := View.set_slice_whole _ _
theorem wh_set (k : Chunk) : (wh k).view.set = rowsOf k := View.set_slice_whole _ _

theorem wb_blocks (c : Dev nD) (f : BufOf (F := F) c wbM) : (wbM.view.loc (c : Thread nD τ) ↦{fullShare} f : sProp 𝕄)
    = bigSep Finset.univ fun k => (wb k).view.loc (c : Thread nD τ) ↦[(wb k).view.set]{fullShare} f := by
  rw [show (wbM.view.loc (c : Thread nD τ) ↦{fullShare} f : sProp 𝕄)
      = bigSep Finset.univ fun k => wbM.view.loc (c : Thread nD τ) ↦[rowsOf k]{fullShare} f from
    Ring.pointsTo_blocks (ℓ := wbM.view.loc (c : Thread nD τ)) rowsOf rows_disjoint rows_cover f]
  exact bigSep_congr fun k _ => by rw [wb_set k]

theorem wh_blocks (c : Dev nD) (f : BufOf (F := F) c whM) : (whM.view.loc (c : Thread nD τ) ↦{fullShare} f : sProp 𝕄)
    = bigSep Finset.univ fun k => (wh k).view.loc (c : Thread nD τ) ↦[(wh k).view.set]{fullShare} f := by
  rw [show (whM.view.loc (c : Thread nD τ) ↦{fullShare} f : sProp 𝕄)
      = bigSep Finset.univ fun k => whM.view.loc (c : Thread nD τ) ↦[rowsOf k]{fullShare} f from
    Ring.pointsTo_blocks (ℓ := whM.view.loc (c : Thread nD τ)) rowsOf rows_disjoint rows_cover f]
  exact bigSep_congr fun k _ => by rw [wh_set k]

/-- The two weight buffers and the chunks' cells at zero, together. -/
theorem done_all (c : Dev nD) (fh : BufOf (F := F) c whM) (fw : BufOf (F := F) c wbM) :
    bigSep Finset.univ (done c fh fw)
      = iprop((wbM.view.loc (c : Thread nD τ) ↦{fullShare} fw) ∗ (whM.view.loc (c : Thread nD τ) ↦{fullShare} fh)
        ∗ bigSep Finset.univ fun k : Chunk => (semVal ((c : Thread nD τ), SemLoc.dma (cellSems k).sem) 0 : sProp 𝕄)) := by
  rw [wb_blocks, wh_blocks]
  unfold done
  exact (bigSep_sep _ _ _).trans (congrArg _ (bigSep_sep _ _ _))

/-- A chunk at rest, its offset and cell written as the kernel writes them. -/
theorem done_at (c : Dev nD) (fh : BufOf (F := F) c whM) (fw : BufOf (F := F) c wbM) (k : Chunk) (o : Fin 2 → ℕ) (h)
    (ho : k0_off2 k = o) (sm : DmaSem sig) (hsm : (cellSems k).sem = sm) :
    done c fh fw k = (iprop(((wbO o h).view.loc (c : Thread nD τ) ↦[(wbO o h).view.set]{fullShare} fw)
      ∗ ((whO o h).view.loc (c : Thread nD τ) ↦[(whO o h).view.set]{fullShare} fh)
      ∗ semVal ((c : Thread nD τ), SemLoc.dma sm) 0) : sProp 𝕄) := by
  subst ho hsm; rfl

end Cert.Kernel.Hand

end
-- ==== Proof.Trip.lean ====
/- One trip of the chunk loop: the chunk's copy is waited for, its scales are turned into floats, its 16 tiles are multiplied and added up, and the 8 by 512 block of results is stored. -/
module

public import proofs.«01_k».proof.Proof.Setup

@[expose] public section

set_option maxRecDepth 65536
set_option maxHeartbeats 0

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (Pipeline.UD sig nD τ) ℕ

/-- The trip's run: whatever the scratch for the scales and the result held, the trip leaves the result's columns of
    chunk `k` at a value that depends only on the chunk's codes, the scale codes and the masked activations. -/
def tripRun (c : Dev nD) (k : Chunk) (fw : BufOf (F := F) c wbM) (fs : BufOf (F := F) c sbM) (fx : BufOf (F := F) c xmM) :
    {v : FVec F S8x512 .bf16 // ∀ (arg3 : Memref sig .tc .vmem S8x14336 .bf16) (harg3 : arg3.IsWhole)
      (arg0 : Memref sig .tc .vmem S8x4096 .bf16) (harg0 : arg0.IsWhole)
      (fh : BufOf (F := F) c whM) (fc : BufOf (F := F) c scM) (fo : BufOf (F := F) c arg3) (W : Finset (SemLoc sig × Unit)),
      iprop(flying c fh fw k ∗ (sbM.view.loc (c : Thread nD τ) ↦{fullShare} fs) ∗ (xmM.view.loc (c : Thread nD τ) ↦{fullShare} fx)
        ∗ (scM.view.loc (c : Thread nD τ) ↦{fullShare} fc) ∗ (arg3.view.loc (c : Thread nD τ) ↦[arg3.view.set]{fullShare} fo)
        ∗ owes (c : Thread nD τ) 0 W)
      ⊢ wp frame (wpE (defs₀ (F := F)) Variants.none (c : Thread nD τ) none) Set.univ
        (k0_t1_body (F := F) arg0 harg0 shM (Memref.isWhole_whole _) whM (Memref.isWhole_whole _) arg3 harg3 wbM (Memref.isWhole_whole _)
          sbM (Memref.isWhole_whole _) xmM (Memref.isWhole_whole _) scM (Memref.isWhole_whole _) cc0_scratch4 cc0_scratch5 k ())
        (fun _ => iprop(done c fh fw k ∗ (sbM.view.loc (c : Thread nD τ) ↦{fullShare} fs) ∗ (xmM.view.loc (c : Thread nD τ) ↦{fullShare} fx)
          ∗ (∃ fc, scM.view.loc (c : Thread nD τ) ↦{fullShare} fc)
          ∗ (arg3.view.loc (c : Thread nD τ) ↦[arg3.view.set]{fullShare} arg3.view.writes (Elt F) fo
              [⟨Rect.unit (s := S8x14336) (k0_off20 k) S8x512.size (k0_off20_inb k), v⟩])
          ∗ ∃ W, owes (c : Thread nD τ) 0 W))} := by
  refine ⟨?_, ?run⟩
  case run =>
    intro arg3 harg3 arg0 harg0 fh fc fo W
    have l4 := load_in k (k0_off4 k) (k0_off4_inb k) 0 (k0_off4_eq k) (by decide)
    have l5 := load_in k (k0_off5 k) (k0_off5_inb k) 128 (k0_off5_eq k) (by decide)
    have l6 := load_in k (k0_off6 k) (k0_off6_inb k) 256 (k0_off6_eq k) (by decide)
    have l7 := load_in k (k0_off7 k) (k0_off7_inb k) 384 (k0_off7_eq k) (by decide)
    have l8 := load_in k (k0_off8 k) (k0_off8_inb k) 512 (k0_off8_eq k) (by decide)
    have l9 := load_in k (k0_off9 k) (k0_off9_inb k) 640 (k0_off9_eq k) (by decide)
    have l10 := load_in k (k0_off10 k) (k0_off10_inb k) 768 (k0_off10_eq k) (by decide)
    have l11 := load_in k (k0_off11 k) (k0_off11_inb k) 896 (k0_off11_eq k) (by decide)
    have l12 := load_in k (k0_off12 k) (k0_off12_inb k) 1024 (k0_off12_eq k) (by decide)
    have l13 := load_in k (k0_off13 k) (k0_off13_inb k) 1152 (k0_off13_eq k) (by decide)
    have l14 := load_in k (k0_off14 k) (k0_off14_inb k) 1280 (k0_off14_eq k) (by decide)
    have l15 := load_in k (k0_off15 k) (k0_off15_inb k) 1408 (k0_off15_eq k) (by decide)
    have l16 := load_in k (k0_off16 k) (k0_off16_inb k) 1536 (k0_off16_eq k) (by decide)
    have l17 := load_in k (k0_off17 k) (k0_off17_inb k) 1664 (k0_off17_eq k) (by decide)
    have l18 := load_in k (k0_off18 k) (k0_off18_inb k) 1792 (k0_off18_eq k) (by decide)
    have l19 := load_in k (k0_off19 k) (k0_off19_inb k) 1920 (k0_off19_eq k) (by decide)
    unfold Gen.k0_t1_body flying done
    iintro ⟨Hf, Hs, Hx, Hc, Ho, HO⟩
    sl_exec_parts
    sl_step
    isplitl [Hf_dst Hf_src Hf]
    · isplitl [Hf_dst]; · iexact Hf_dst
      isplitl [Hf_src]; · iexact Hf_src
      iexact Hf
    isplitl [Hs]; · iexact Hs
    isplitl [Hx]; · iexact Hx
    isplitl [Hc]; · iexists _; iexact Hc
    isplitl [Ho]; · iexact Ho
    iexists _; iexact HO

end Cert.Kernel.Hand

end
-- ==== Proof.Prologue.lean ====
/- The body up to its loop: the 28 chunk copies and the scale copy are issued, the masked activations are built tile by tile, and the scale copy is waited for. -/
module

public import proofs.«01_k».proof.Proof.Setup

@[expose] public section

set_option maxRecDepth 65536
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (Pipeline.UD sig nD τ) ℕ

/-- What the loop leaves to be run, once the prologue is done. -/
abbrev loopProg (arg0 : Memref sig .tc .vmem S8x4096 .bf16) (harg0 : arg0.IsWhole) (arg3 : Memref sig .tc .vmem S8x14336 .bf16) (harg3 : arg3.IsWhole) :
    Prog (TpuEff nD τ sig (Elt F) Λ₀ .tc) PUnit := do
  k0_t1_loop.for k0_t1_ok PUnit.unit
    (k0_t1_body (F := F) arg0 harg0 shM (Memref.isWhole_whole _) whM (Memref.isWhole_whole _) arg3 harg3 wbM (Memref.isWhole_whole _)
          sbM (Memref.isWhole_whole _) xmM (Memref.isWhole_whole _) scM (Memref.isWhole_whole _) cc0_scratch4 cc0_scratch5)
  pure PUnit.unit

/-- The prologue's run: the scratch of masked activations ends at contents that depend only on the activations. -/
def prologueRun (c : Dev nD) (arg0 : Memref sig .tc .vmem S8x4096 .bf16) (harg0 : arg0.IsWhole) (f0 : BufOf (F := F) c arg0) :
    {gx : BufOf (F := F) c xmM // ∀ (arg3 : Memref sig .tc .vmem S8x14336 .bf16) (harg3 : arg3.IsWhole)
      (fh : BufOf (F := F) c whM) (fw : BufOf (F := F) c wbM) (fsh : BufOf (F := F) c shM) (fs : BufOf (F := F) c sbM) (fx : BufOf (F := F) c xmM)
      (W : Finset (SemLoc sig × Unit)) (K : PUnit → sProp 𝕄),
      iprop((shM.view.loc (c : Thread nD τ) ↦{fullShare} fsh)
      ∗ ((wbO ![0, 0] inb_S14336x2048_S512x2048_0_0).view.loc (c : Thread nD τ) ↦[(wbO ![0, 0] inb_S14336x2048_S512x2048_0_0).view.set]{fullShare} fw)
        ∗ ((whO ![0, 0] inb_S14336x2048_S512x2048_0_0).view.loc (c : Thread nD τ) ↦[(whO ![0, 0] inb_S14336x2048_S512x2048_0_0).view.set]{fullShare} fh)
        ∗ (semVal ((c : Thread nD τ), SemLoc.dma 2) 0 : sProp 𝕄)
      ∗ ((wbO ![512, 0] inb_S14336x2048_S512x2048_512_0).view.loc (c : Thread nD τ) ↦[(wbO ![512, 0] inb_S14336x2048_S512x2048_512_0).view.set]{fullShare} fw)
        ∗ ((whO ![512, 0] inb_S14336x2048_S512x2048_512_0).view.loc (c : Thread nD τ) ↦[(whO ![512, 0] inb_S14336x2048_S512x2048_512_0).view.set]{fullShare} fh)
        ∗ (semVal ((c : Thread nD τ), SemLoc.dma 3) 0 : sProp 𝕄)
      ∗ ((wbO ![1024, 0] inb_S14336x2048_S512x2048_1024_0).view.loc (c : Thread nD τ) ↦[(wbO ![1024, 0] inb_S14336x2048_S512x2048_1024_0).view.set]{fullShare} fw)
        ∗ ((whO ![1024, 0] inb_S14336x2048_S512x2048_1024_0).view.loc (c : Thread nD τ) ↦[(whO ![1024, 0] inb_S14336x2048_S512x2048_1024_0).view.set]{fullShare} fh)
        ∗ (semVal ((c : Thread nD τ), SemLoc.dma 4) 0 : sProp 𝕄)
      ∗ ((wbO ![1536, 0] inb_S14336x2048_S512x2048_1536_0).view.loc (c : Thread nD τ) ↦[(wbO ![1536, 0] inb_S14336x2048_S512x2048_1536_0).view.set]{fullShare} fw)
        ∗ ((whO ![1536, 0] inb_S14336x2048_S512x2048_1536_0).view.loc (c : Thread nD τ) ↦[(whO ![1536, 0] inb_S14336x2048_S512x2048_1536_0).view.set]{fullShare} fh)
        ∗ (semVal ((c : Thread nD τ), SemLoc.dma 5) 0 : sProp 𝕄)
      ∗ ((wbO ![2048, 0] inb_S14336x2048_S512x2048_2048_0).view.loc (c : Thread nD τ) ↦[(wbO ![2048, 0] inb_S14336x2048_S512x2048_2048_0).view.set]{fullShare} fw)
        ∗ ((whO ![2048, 0] inb_S14336x2048_S512x2048_2048_0).view.loc (c : Thread nD τ) ↦[(whO ![2048, 0] inb_S14336x2048_S512x2048_2048_0).view.set]{fullShare} fh)
        ∗ (semVal ((c : Thread nD τ), SemLoc.dma 6) 0 : sProp 𝕄)
      ∗ ((wbO ![2560, 0] inb_S14336x2048_S512x2048_2560_0).view.loc (c : Thread nD τ) ↦[(wbO ![2560, 0] inb_S14336x2048_S512x2048_2560_0).view.set]{fullShare} fw)
        ∗ ((whO ![2560, 0] inb_S14336x2048_S512x2048_2560_0).view.loc (c : Thread nD τ) ↦[(whO ![2560, 0] inb_S14336x2048_S512x2048_2560_0).view.set]{fullShare} fh)
        ∗ (semVal ((c : Thread nD τ), SemLoc.dma 7) 0 : sProp 𝕄)
      ∗ ((wbO ![3072, 0] inb_S14336x2048_S512x2048_3072_0).view.loc (c : Thread nD τ) ↦[(wbO ![3072, 0] inb_S14336x2048_S512x2048_3072_0).view.set]{fullShare} fw)
        ∗ ((whO ![3072, 0] inb_S14336x2048_S512x2048_3072_0).view.loc (c : Thread nD τ) ↦[(whO ![3072, 0] inb_S14336x2048_S512x2048_3072_0).view.set]{fullShare} fh)
        ∗ (semVal ((c : Thread nD τ), SemLoc.dma 8) 0 : sProp 𝕄)
      ∗ ((wbO ![3584, 0] inb_S14336x2048_S512x2048_3584_0).view.loc (c : Thread nD τ) ↦[(wbO ![3584, 0] inb_S14336x2048_S512x2048_3584_0).view.set]{fullShare} fw)
        ∗ ((whO ![3584, 0] inb_S14336x2048_S512x2048_3584_0).view.loc (c : Thread nD τ) ↦[(whO ![3584, 0] inb_S14336x2048_S512x2048_3584_0).view.set]{fullShare} fh)
        ∗ (semVal ((c : Thread nD τ), SemLoc.dma 9) 0 : sProp 𝕄)
      ∗ ((wbO ![4096, 0] inb_S14336x2048_S512x2048_4096_0).view.loc (c : Thread nD τ) ↦[(wbO ![4096, 0] inb_S14336x2048_S512x2048_4096_0).view.set]{fullShare} fw)
        ∗ ((whO ![4096, 0] inb_S14336x2048_S512x2048_4096_0).view.loc (c : Thread nD τ) ↦[(whO ![4096, 0] inb_S14336x2048_S512x2048_4096_0).view.set]{fullShare} fh)
        ∗ (semVal ((c : Thread nD τ), SemLoc.dma 10) 0 : sProp 𝕄)
      ∗ ((wbO ![4608, 0] inb_S14336x2048_S512x2048_4608_0).view.loc (c : Thread nD τ) ↦[(wbO ![4608, 0] inb_S14336x2048_S512x2048_4608_0).view.set]{fullShare} fw)
        ∗ ((whO ![4608, 0] inb_S14336x2048_S512x2048_4608_0).view.loc (c : Thread nD τ) ↦[(whO ![4608, 0] inb_S14336x2048_S512x2048_4608_0).view.set]{fullShare} fh)
        ∗ (semVal ((c : Thread nD τ), SemLoc.dma 11) 0 : sProp 𝕄)
      ∗ ((wbO ![5120, 0] inb_S14336x2048_S512x2048_5120_0).view.loc (c : Thread nD τ) ↦[(wbO ![5120, 0] inb_S14336x2048_S512x2048_5120_0).view.set]{fullShare} fw)
        ∗ ((whO ![5120, 0] inb_S14336x2048_S512x2048_5120_0).view.loc (c : Thread nD τ) ↦[(whO ![5120, 0] inb_S14336x2048_S512x2048_5120_0).view.set]{fullShare} fh)
        ∗ (semVal ((c : Thread nD τ), SemLoc.dma 12) 0 : sProp 𝕄)
      ∗ ((wbO ![5632, 0] inb_S14336x2048_S512x2048_5632_0).view.loc (c : Thread nD τ) ↦[(wbO ![5632, 0] inb_S14336x2048_S512x2048_5632_0).view.set]{fullShare} fw)
        ∗ ((whO ![5632, 0] inb_S14336x2048_S512x2048_5632_0).view.loc (c : Thread nD τ) ↦[(whO ![5632, 0] inb_S14336x2048_S512x2048_5632_0).view.set]{fullShare} fh)
        ∗ (semVal ((c : Thread nD τ), SemLoc.dma 13) 0 : sProp 𝕄)
      ∗ ((wbO ![6144, 0] inb_S14336x2048_S512x2048_6144_0).view.loc (c : Thread nD τ) ↦[(wbO ![6144, 0] inb_S14336x2048_S512x2048_6144_0).view.set]{fullShare} fw)
        ∗ ((whO ![6144, 0] inb_S14336x2048_S512x2048_6144_0).view.loc (c : Thread nD τ) ↦[(whO ![6144, 0] inb_S14336x2048_S512x2048_6144_0).view.set]{fullShare} fh)
        ∗ (semVal ((c : Thread nD τ), SemLoc.dma 14) 0 : sProp 𝕄)
      ∗ ((wbO ![6656, 0] inb_S14336x2048_S512x2048_6656_0).view.loc (c : Thread nD τ) ↦[(wbO ![6656, 0] inb_S14336x2048_S512x2048_6656_0).view.set]{fullShare} fw)
        ∗ ((whO ![6656, 0] inb_S14336x2048_S512x2048_6656_0).view.loc (c : Thread nD τ) ↦[(whO ![6656, 0] inb_S14336x2048_S512x2048_6656_0).view.set]{fullShare} fh)
        ∗ (semVal ((c : Thread nD τ), SemLoc.dma 15) 0 : sProp 𝕄)
      ∗ ((wbO ![7168, 0] inb_S14336x2048_S512x2048_7168_0).view.loc (c : Thread nD τ) ↦[(wbO ![7168, 0] inb_S14336x2048_S512x2048_7168_0).view.set]{fullShare} fw)
        ∗ ((whO ![7168, 0] inb_S14336x2048_S512x2048_7168_0).view.loc (c : Thread nD τ) ↦[(whO ![7168, 0] inb_S14336x2048_S512x2048_7168_0).view.set]{fullShare} fh)
        ∗ (semVal ((c : Thread nD τ), SemLoc.dma 16) 0 : sProp 𝕄)
      ∗ ((wbO ![7680, 0] inb_S14336x2048_S512x2048_7680_0).view.loc (c : Thread nD τ) ↦[(wbO ![7680, 0] inb_S14336x2048_S512x2048_7680_0).view.set]{fullShare} fw)
        ∗ ((whO ![7680, 0] inb_S14336x2048_S512x2048_7680_0).view.loc (c : Thread nD τ) ↦[(whO ![7680, 0] inb_S14336x2048_S512x2048_7680_0).view.set]{fullShare} fh)
        ∗ (semVal ((c : Thread nD τ), SemLoc.dma 17) 0 : sProp 𝕄)
      ∗ ((wbO ![8192, 0] inb_S14336x2048_S512x2048_8192_0).view.loc (c : Thread nD τ) ↦[(wbO ![8192, 0] inb_S14336x2048_S512x2048_8192_0).view.set]{fullShare} fw)
        ∗ ((whO ![8192, 0] inb_S14336x2048_S512x2048_8192_0).view.loc (c : Thread nD τ) ↦[(whO ![8192, 0] inb_S14336x2048_S512x2048_8192_0).view.set]{fullShare} fh)
        ∗ (semVal ((c : Thread nD τ), SemLoc.dma 18) 0 : sProp 𝕄)
      ∗ ((wbO ![8704, 0] inb_S14336x2048_S512x2048_8704_0).view.loc (c : Thread nD τ) ↦[(wbO ![8704, 0] inb_S14336x2048_S512x2048_8704_0).view.set]{fullShare} fw)
        ∗ ((whO ![8704, 0] inb_S14336x2048_S512x2048_8704_0).view.loc (c : Thread nD τ) ↦[(whO ![8704, 0] inb_S14336x2048_S512x2048_8704_0).view.set]{fullShare} fh)
        ∗ (semVal ((c : Thread nD τ), SemLoc.dma 19) 0 : sProp 𝕄)
      ∗ ((wbO ![9216, 0] inb_S14336x2048_S512x2048_9216_0).view.loc (c : Thread nD τ) ↦[(wbO ![9216, 0] inb_S14336x2048_S512x2048_9216_0).view.set]{fullShare} fw)
        ∗ ((whO ![9216, 0] inb_S14336x2048_S512x2048_9216_0).view.loc (c : Thread nD τ) ↦[(whO ![9216, 0] inb_S14336x2048_S512x2048_9216_0).view.set]{fullShare} fh)
        ∗ (semVal ((c : Thread nD τ), SemLoc.dma 20) 0 : sProp 𝕄)
      ∗ ((wbO ![9728, 0] inb_S14336x2048_S512x2048_9728_0).view.loc (c : Thread nD τ) ↦[(wbO ![9728, 0] inb_S14336x2048_S512x2048_9728_0).view.set]{fullShare} fw)
        ∗ ((whO ![9728, 0] inb_S14336x2048_S512x2048_9728_0).view.loc (c : Thread nD τ) ↦[(whO ![9728, 0] inb_S14336x2048_S512x2048_9728_0).view.set]{fullShare} fh)
        ∗ (semVal ((c : Thread nD τ), SemLoc.dma 21) 0 : sProp 𝕄)
      ∗ ((wbO ![10240, 0] inb_S14336x2048_S512x2048_10240_0).view.loc (c : Thread nD τ) ↦[(wbO ![10240, 0] inb_S14336x2048_S512x2048_10240_0).view.set]{fullShare} fw)
        ∗ ((whO ![10240, 0] inb_S14336x2048_S512x2048_10240_0).view.loc (c : Thread nD τ) ↦[(whO ![10240, 0] inb_S14336x2048_S512x2048_10240_0).view.set]{fullShare} fh)
        ∗ (semVal ((c : Thread nD τ), SemLoc.dma 22) 0 : sProp 𝕄)
      ∗ ((wbO ![10752, 0] inb_S14336x2048_S512x2048_10752_0).view.loc (c : Thread nD τ) ↦[(wbO ![10752, 0] inb_S14336x2048_S512x2048_10752_0).view.set]{fullShare} fw)
        ∗ ((whO ![10752, 0] inb_S14336x2048_S512x2048_10752_0).view.loc (c : Thread nD τ) ↦[(whO ![10752, 0] inb_S14336x2048_S512x2048_10752_0).view.set]{fullShare} fh)
        ∗ (semVal ((c : Thread nD τ), SemLoc.dma 23) 0 : sProp 𝕄)
      ∗ ((wbO ![11264, 0] inb_S14336x2048_S512x2048_11264_0).view.loc (c : Thread nD τ) ↦[(wbO ![11264, 0] inb_S14336x2048_S512x2048_11264_0).view.set]{fullShare} fw)
        ∗ ((whO ![11264, 0] inb_S14336x2048_S512x2048_11264_0).view.loc (c : Thread nD τ) ↦[(whO ![11264, 0] inb_S14336x2048_S512x2048_11264_0).view.set]{fullShare} fh)
        ∗ (semVal ((c : Thread nD τ), SemLoc.dma 24) 0 : sProp 𝕄)
      ∗ ((wbO ![11776, 0] inb_S14336x2048_S512x2048_11776_0).view.loc (c : Thread nD τ) ↦[(wbO ![11776, 0] inb_S14336x2048_S512x2048_11776_0).view.set]{fullShare} fw)
        ∗ ((whO ![11776, 0] inb_S14336x2048_S512x2048_11776_0).view.loc (c : Thread nD τ) ↦[(whO ![11776, 0] inb_S14336x2048_S512x2048_11776_0).view.set]{fullShare} fh)
        ∗ (semVal ((c : Thread nD τ), SemLoc.dma 25) 0 : sProp 𝕄)
      ∗ ((wbO ![12288, 0] inb_S14336x2048_S512x2048_12288_0).view.loc (c : Thread nD τ) ↦[(wbO ![12288, 0] inb_S14336x2048_S512x2048_12288_0).view.set]{fullShare} fw)
        ∗ ((whO ![12288, 0] inb_S14336x2048_S512x2048_12288_0).view.loc (c : Thread nD τ) ↦[(whO ![12288, 0] inb_S14336x2048_S512x2048_12288_0).view.set]{fullShare} fh)
        ∗ (semVal ((c : Thread nD τ), SemLoc.dma 26) 0 : sProp 𝕄)
      ∗ ((wbO ![12800, 0] inb_S14336x2048_S512x2048_12800_0).view.loc (c : Thread nD τ) ↦[(wbO ![12800, 0] inb_S14336x2048_S512x2048_12800_0).view.set]{fullShare} fw)
        ∗ ((whO ![12800, 0] inb_S14336x2048_S512x2048_12800_0).view.loc (c : Thread nD τ) ↦[(whO ![12800, 0] inb_S14336x2048_S512x2048_12800_0).view.set]{fullShare} fh)
        ∗ (semVal ((c : Thread nD τ), SemLoc.dma 27) 0 : sProp 𝕄)
      ∗ ((wbO ![13312, 0] inb_S14336x2048_S512x2048_13312_0).view.loc (c : Thread nD τ) ↦[(wbO ![13312, 0] inb_S14336x2048_S512x2048_13312_0).view.set]{fullShare} fw)
        ∗ ((whO ![13312, 0] inb_S14336x2048_S512x2048_13312_0).view.loc (c : Thread nD τ) ↦[(whO ![13312, 0] inb_S14336x2048_S512x2048_13312_0).view.set]{fullShare} fh)
        ∗ (semVal ((c : Thread nD τ), SemLoc.dma 28) 0 : sProp 𝕄)
      ∗ ((wbO ![13824, 0] inb_S14336x2048_S512x2048_13824_0).view.loc (c : Thread nD τ) ↦[(wbO ![13824, 0] inb_S14336x2048_S512x2048_13824_0).view.set]{fullShare} fw)
        ∗ ((whO ![13824, 0] inb_S14336x2048_S512x2048_13824_0).view.loc (c : Thread nD τ) ↦[(whO ![13824, 0] inb_S14336x2048_S512x2048_13824_0).view.set]{fullShare} fh)
        ∗ (semVal ((c : Thread nD τ), SemLoc.dma 29) 0 : sProp 𝕄)
      ∗ (semVal ((c : Thread nD τ), SemLoc.dma 30) 0 : sProp 𝕄)
      ∗ (sbM.view.loc (c : Thread nD τ) ↦{fullShare} fs) ∗ (xmM.view.loc (c : Thread nD τ) ↦{fullShare} fx)
      ∗ (arg0.view.loc (c : Thread nD τ) ↦[arg0.view.set]{fullShare} f0) ∗ owes (c : Thread nD τ) 0 W
      ∗ (iprop(bigSep Finset.univ (flying c fh (asW c fh))
          ∗ (shM.view.loc (c : Thread nD τ) ↦{fullShare} fsh) ∗ (semVal ((c : Thread nD τ), SemLoc.dma 30) 0 : sProp 𝕄)
          ∗ (sbM.view.loc (c : Thread nD τ) ↦{fullShare} asS c fsh) ∗ (xmM.view.loc (c : Thread nD τ) ↦{fullShare} gx)
          ∗ (arg0.view.loc (c : Thread nD τ) ↦[arg0.view.set]{fullShare} f0) ∗ ∃ W, owes (c : Thread nD τ) 0 W)
        -∗ wp frame (wpE (defs₀ (F := F)) Variants.none (c : Thread nD τ) none) Set.univ (loopProg arg0 harg0 arg3 harg3) K))
      ⊢ wp frame (wpE (defs₀ (F := F)) Variants.none (c : Thread nD τ) none) Set.univ
        (cc0__body (F := F) arg0 harg0 shM (Memref.isWhole_whole _) whM (Memref.isWhole_whole _) arg3 harg3 wbM (Memref.isWhole_whole _)
          sbM (Memref.isWhole_whole _) xmM (Memref.isWhole_whole _) scM (Memref.isWhole_whole _) cc0_scratch4 cc0_scratch5) K} := by
  refine ⟨?_, ?run⟩
  case run =>
    intro arg3 harg3 fh fw fsh fs fx W K
    rw [cc0__body_eq_skeleton, bigSep_chunks]
    unfold cc0__body_skel
    iintro ⟨Hsh, Hb0, Hh0, Hv0, Hb1, Hh1, Hv1, Hb2, Hh2, Hv2, Hb3, Hh3, Hv3, Hb4, Hh4, Hv4, Hb5, Hh5, Hv5, Hb6, Hh6, Hv6, Hb7, Hh7, Hv7, Hb8, Hh8, Hv8, Hb9, Hh9, Hv9, Hb10, Hh10, Hv10, Hb11, Hh11, Hv11, Hb12, Hh12, Hv12, Hb13, Hh13, Hv13, Hb14, Hh14, Hv14, Hb15, Hh15, Hv15, Hb16, Hh16, Hv16, Hb17, Hh17, Hv17, Hb18, Hh18, Hv18, Hb19, Hh19, Hv19, Hb20, Hh20, Hv20, Hb21, Hh21, Hv21, Hb22, Hh22, Hv22, Hb23, Hh23, Hv23, Hb24, Hh24, Hv24, Hb25, Hh25, Hv25, Hb26, Hh26, Hv26, Hb27, Hh27, Hv27, Hv28, Hs, Hx, H0, HO, Hk⟩
    sl_exec_parts!
    iapply Hk
    isplitl [Hv0 Hv1 Hv2 Hv3 Hv4 Hv5 Hv6 Hv7 Hv8 Hv9 Hv10 Hv11 Hv12 Hv13 Hv14 Hv15 Hv16 Hv17 Hv18 Hv19 Hv20 Hv21 Hv22 Hv23 Hv24 Hv25 Hv26 Hv27]
    · isplitl [Hv0]
      · iapply (land c ⟨0, by decide⟩ ![0, 0] inb_S14336x2048_S512x2048_0_0 (k0_off2_eq _) 2 (by decide) fh fw _ rfl)
        iexact Hv0
      isplitl [Hv1]
      · iapply (land c ⟨1, by decide⟩ ![512, 0] inb_S14336x2048_S512x2048_512_0 (k0_off2_eq _) 3 (by decide) fh fw _ rfl)
        iexact Hv1
      isplitl [Hv2]
      · iapply (land c ⟨2, by decide⟩ ![1024, 0] inb_S14336x2048_S512x2048_1024_0 (k0_off2_eq _) 4 (by decide) fh fw _ rfl)
        iexact Hv2
      isplitl [Hv3]
      · iapply (land c ⟨3, by decide⟩ ![1536, 0] inb_S14336x2048_S512x2048_1536_0 (k0_off2_eq _) 5 (by decide) fh fw _ rfl)
        iexact Hv3
      isplitl [Hv4]
      · iapply (land c ⟨4, by decide⟩ ![2048, 0] inb_S14336x2048_S512x2048_2048_0 (k0_off2_eq _) 6 (by decide) fh fw _ rfl)
        iexact Hv4
      isplitl [Hv5]
      · iapply (land c ⟨5, by decide⟩ ![2560, 0] inb_S14336x2048_S512x2048_2560_0 (k0_off2_eq _) 7 (by decide) fh fw _ rfl)
        iexact Hv5
      isplitl [Hv6]
      · iapply (land c ⟨6, by decide⟩ ![3072, 0] inb_S14336x2048_S512x2048_3072_0 (k0_off2_eq _) 8 (by decide) fh fw _ rfl)
        iexact Hv6
      isplitl [Hv7]
      · iapply (land c ⟨7, by decide⟩ ![3584, 0] inb_S14336x2048_S512x2048_3584_0 (k0_off2_eq _) 9 (by decide) fh fw _ rfl)
        iexact Hv7
      isplitl [Hv8]
      · iapply (land c ⟨8, by decide⟩ ![4096, 0] inb_S14336x2048_S512x2048_4096_0 (k0_off2_eq _) 10 (by decide) fh fw _ rfl)
        iexact Hv8
      isplitl [Hv9]
      · iapply (land c ⟨9, by decide⟩ ![4608, 0] inb_S14336x2048_S512x2048_4608_0 (k0_off2_eq _) 11 (by decide) fh fw _ rfl)
        iexact Hv9
      isplitl [Hv10]
      · iapply (land c ⟨10, by decide⟩ ![5120, 0] inb_S14336x2048_S512x2048_5120_0 (k0_off2_eq _) 12 (by decide) fh fw _ rfl)
        iexact Hv10
      isplitl [Hv11]
      · iapply (land c ⟨11, by decide⟩ ![5632, 0] inb_S14336x2048_S512x2048_5632_0 (k0_off2_eq _) 13 (by decide) fh fw _ rfl)
        iexact Hv11
      isplitl [Hv12]
      · iapply (land c ⟨12, by decide⟩ ![6144, 0] inb_S14336x2048_S512x2048_6144_0 (k0_off2_eq _) 14 (by decide) fh fw _ rfl)
        iexact Hv12
      isplitl [Hv13]
      · iapply (land c ⟨13, by decide⟩ ![6656, 0] inb_S14336x2048_S512x2048_6656_0 (k0_off2_eq _) 15 (by decide) fh fw _ rfl)
        iexact Hv13
      isplitl [Hv14]
      · iapply (land c ⟨14, by decide⟩ ![7168, 0] inb_S14336x2048_S512x2048_7168_0 (k0_off2_eq _) 16 (by decide) fh fw _ rfl)
        iexact Hv14
      isplitl [Hv15]
      · iapply (land c ⟨15, by decide⟩ ![7680, 0] inb_S14336x2048_S512x2048_7680_0 (k0_off2_eq _) 17 (by decide) fh fw _ rfl)
        iexact Hv15
      isplitl [Hv16]
      · iapply (land c ⟨16, by decide⟩ ![8192, 0] inb_S14336x2048_S512x2048_8192_0 (k0_off2_eq _) 18 (by decide) fh fw _ rfl)
        iexact Hv16
      isplitl [Hv17]
      · iapply (land c ⟨17, by decide⟩ ![8704, 0] inb_S14336x2048_S512x2048_8704_0 (k0_off2_eq _) 19 (by decide) fh fw _ rfl)
        iexact Hv17
      isplitl [Hv18]
      · iapply (land c ⟨18, by decide⟩ ![9216, 0] inb_S14336x2048_S512x2048_9216_0 (k0_off2_eq _) 20 (by decide) fh fw _ rfl)
        iexact Hv18
      isplitl [Hv19]
      · iapply (land c ⟨19, by decide⟩ ![9728, 0] inb_S14336x2048_S512x2048_9728_0 (k0_off2_eq _) 21 (by decide) fh fw _ rfl)
        iexact Hv19
      isplitl [Hv20]
      · iapply (land c ⟨20, by decide⟩ ![10240, 0] inb_S14336x2048_S512x2048_10240_0 (k0_off2_eq _) 22 (by decide) fh fw _ rfl)
        iexact Hv20
      isplitl [Hv21]
      · iapply (land c ⟨21, by decide⟩ ![10752, 0] inb_S14336x2048_S512x2048_10752_0 (k0_off2_eq _) 23 (by decide) fh fw _ rfl)
        iexact Hv21
      isplitl [Hv22]
      · iapply (land c ⟨22, by decide⟩ ![11264, 0] inb_S14336x2048_S512x2048_11264_0 (k0_off2_eq _) 24 (by decide) fh fw _ rfl)
        iexact Hv22
      isplitl [Hv23]
      · iapply (land c ⟨23, by decide⟩ ![11776, 0] inb_S14336x2048_S512x2048_11776_0 (k0_off2_eq _) 25 (by decide) fh fw _ rfl)
        iexact Hv23
      isplitl [Hv24]
      · iapply (land c ⟨24, by decide⟩ ![12288, 0] inb_S14336x2048_S512x2048_12288_0 (k0_off2_eq _) 26 (by decide) fh fw _ rfl)
        iexact Hv24
      isplitl [Hv25]
      · iapply (land c ⟨25, by decide⟩ ![12800, 0] inb_S14336x2048_S512x2048_12800_0 (k0_off2_eq _) 27 (by decide) fh fw _ rfl)
        iexact Hv25
      isplitl [Hv26]
      · iapply (land c ⟨26, by decide⟩ ![13312, 0] inb_S14336x2048_S512x2048_13312_0 (k0_off2_eq _) 28 (by decide) fh fw _ rfl)
        iexact Hv26
      iapply (land c ⟨27, by decide⟩ ![13824, 0] inb_S14336x2048_S512x2048_13824_0 (k0_off2_eq _) 29 (by decide) fh fw _ rfl)
      iexact Hv27
    isplitl [Hsh]; · iexact Hsh
    isplitl [Hv28]; · iexact Hv28
    isplitl [Hs]
    · iapply (Entails.of_eq (pointsTo_congr (f := View.write (Elt F) sbM.view fs (shM.view.read (Elt F) fsh) Finset.univ) fun i _ => eq_on_of_read_eq sbM.view _ (asS c fsh) (View.read_write_univ _ _) i ((Memref.IsWhole.set_eq_univ (Memref.isWhole_whole cc0_scratch1)).symm ▸ Finset.mem_univ i)))
      iexact Hs
    isplitl [Hx]; · iexact Hx
    isplitl [H0]; · iexact H0
    iexists _; iexact HO

end Cert.Kernel.Hand

end
-- ==== Proof.Loop.lean ====
/- The chunk loop: after `k` trips the first `k` chunks have landed and their columns of the result are final. -/
module

public import proofs.«01_k».proof.Proof.Trip
public import proofs.«01_k».proof.Proof.Prologue
public import Idealize.ShloMosaic.Lib.WritesUnit

@[expose] public section

set_option maxRecDepth 65536
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (Pipeline.UD sig nD τ) ℕ

/-- Position of a result element inside its chunk. -/
def inChunk (y : S8x14336.Idx) : S8x512.Idx := fun a =>
  match a with
  | ⟨0, _⟩ => ⟨(y 0).val, (y 0).isLt⟩
  | ⟨1, _⟩ => ⟨(y 1).val % 512, Nat.mod_lt _ (by decide)⟩

/-- The chunk of a result element. -/
def chunkOf (y : S8x14336.Idx) : Chunk := ⟨(y 1).val / 512, by
  rw [trips_eq]; have h : (y 1).val < 14336 := (y 1).isLt; omega⟩

/-- The whole result, chunk by chunk. -/
def outArr (c : Dev nD) (fw : BufOf (F := F) c wbM) (fs : BufOf (F := F) c sbM) (gx : BufOf (F := F) c xmM) : Vec F S8x14336 .bf16 :=
  fun y => (tripRun c (chunkOf y) fw fs gx).1 (inChunk y)

/-- Chunk `i` before trip `k`. -/
def stAt (c : Dev nD) (fh : BufOf (F := F) c whM) (fw : BufOf (F := F) c wbM) (k : ℕ) (i : Chunk) : sProp 𝕄 :=
  if i.val < k then done c fh fw i else flying c fh fw i

/-- The loop's invariant. -/
def inv (c : Dev nD) (arg3 : Memref sig .tc .vmem S8x14336 .bf16) (fh : BufOf (F := F) c whM) (fw : BufOf (F := F) c wbM)
    (fs : BufOf (F := F) c sbM) (gx : BufOf (F := F) c xmM) (k : ℕ) (_ : PUnit.{1}) : sProp 𝕄 :=
  iprop(bigSep Finset.univ (stAt c fh fw k)
    ∗ (sbM.view.loc (c : Thread nD τ) ↦{fullShare} fs) ∗ (xmM.view.loc (c : Thread nD τ) ↦{fullShare} gx)
    ∗ (∃ fc, scM.view.loc (c : Thread nD τ) ↦{fullShare} fc)
    ∗ (∃ fo, (arg3.view.loc (c : Thread nD τ) ↦[arg3.view.set]{fullShare} fo)
        ∗ ⌜∀ y : S8x14336.Idx, (y 1).val < 512 * k → arg3.view.read (Elt F) fo y = outArr c fw fs gx y⌝)
    ∗ ∃ W, owes (c : Thread nD τ) 0 W)

/-- What trip `k` stores extends the final columns by one chunk. -/
theorem store_step (c : Dev nD) (k : Chunk) (arg3 : Memref sig .tc .vmem S8x14336 .bf16) (fw : BufOf (F := F) c wbM)
    (fs : BufOf (F := F) c sbM) (gx : BufOf (F := F) c xmM) (fo : BufOf (F := F) c arg3)
    (h : ∀ y : S8x14336.Idx, (y 1).val < 512 * k.val → arg3.view.read (Elt F) fo y = outArr c fw fs gx y) :
    ∀ y : S8x14336.Idx, (y 1).val < 512 * (k.val + 1) → arg3.view.read (Elt F) (arg3.view.writes (Elt F) fo
      [⟨Rect.unit (s := S8x14336) (k0_off20 k) S8x512.size (k0_off20_inb k), (tripRun c k fw fs gx).1⟩]) y = outArr c fw fs gx y := by
  intro y hy
  by_cases hlt : (y 1).val < 512 * k.val
  · rw [View.read_writes_cons_unit_of_not_mem arg3.view fo (k0_off20_inb k) _ [] y (k0_off20_eq k) 1 (.inl hlt)]
    exact h y hlt
  · have hk : chunkOf y = k := Fin.ext (by show (y 1).val / 512 = k.val; omega)
    subst hk
    rw [View.read_writes_cons_unit_of_mem arg3.view fo (k0_off20_inb (chunkOf y)) _ [] y (inChunk y) (k0_off20_eq (chunkOf y)) (fun a => by
      match a with
      | 0 => exact (Nat.zero_add _).symm
      | 1 => show (y 1).val = 512 * ((y 1).val / 512) + (y 1).val % 512; omega)]
    rfl

/-- One trip carries the invariant on. -/
theorem inv_step (c : Dev nD) (arg0 : Memref sig .tc .vmem S8x4096 .bf16) (harg0 : arg0.IsWhole)
    (arg3 : Memref sig .tc .vmem S8x14336 .bf16) (harg3 : arg3.IsWhole) (fh : BufOf (F := F) c whM) (fw : BufOf (F := F) c wbM)
    (fs : BufOf (F := F) c sbM) (gx : BufOf (F := F) c xmM) (k : Chunk) (acc : PUnit.{1}) :
    inv c arg3 fh fw fs gx k.val acc ⊢ wp frame (wpE (defs₀ (F := F)) Variants.none (c : Thread nD τ) none) Set.univ
      (k0_t1_body (F := F) arg0 harg0 shM (Memref.isWhole_whole _) whM (Memref.isWhole_whole _) arg3 harg3 wbM (Memref.isWhole_whole _)
          sbM (Memref.isWhole_whole _) xmM (Memref.isWhole_whole _) scM (Memref.isWhole_whole _) cc0_scratch4 cc0_scratch5 k acc)
      (inv c arg3 fh fw fs gx (k.val + 1)) := by
  have hrest : bigSep (Finset.univ.erase k) (stAt c fh fw k.val) = bigSep (Finset.univ.erase k) (stAt c fh fw (k.val + 1)) :=
    bigSep_congr fun i hi => by
      have hne : i.val ≠ k.val := fun h => (Finset.mem_erase.mp hi).1 (Fin.ext h)
      unfold stAt
      by_cases hlt : i.val < k.val
      · rw [if_pos hlt, if_pos (by omega)]
      · rw [if_neg hlt, if_neg (by omega)]
  have hk : stAt c fh fw k.val k = flying c fh fw k := if_neg (Nat.lt_irrefl _)
  have hk' : stAt c fh fw (k.val + 1) k = done c fh fw k := if_pos (Nat.lt_succ_self _)
  have e : bigSep Finset.univ (stAt c fh fw k.val)
      = iprop(flying c fh fw k ∗ bigSep (Finset.univ.erase k) (stAt c fh fw (k.val + 1))) := by
    rw [bigSep_univ_split k, hk, hrest]; rfl
  have e' : bigSep Finset.univ (stAt c fh fw (k.val + 1))
      = iprop(done c fh fw k ∗ bigSep (Finset.univ.erase k) (stAt c fh fw (k.val + 1))) := by
    rw [bigSep_univ_split k, hk']; rfl
  unfold inv
  rw [e, e']
  iintro ⟨⟨Hf, Hr⟩, Hs, Hx, ⟨%fc, Hc⟩, ⟨%fo, Ho, %ho⟩, ⟨%W, HO⟩⟩
  iapply (wp_wand_r (M := 𝕄) frame (wpE (defs₀ (F := F)) Variants.none (c : Thread nD τ) none) Set.univ)
  isplitl [Hf Hs Hx Hc Ho HO]
  · iapply ((tripRun c k fw fs gx).2 arg3 harg3 arg0 harg0 fh fc fo W)
    isplitl [Hf]; · iexact Hf
    isplitl [Hs]; · iexact Hs
    isplitl [Hx]; · iexact Hx
    isplitl [Hc]; · iexact Hc
    isplitl [Ho]; · iexact Ho
    iexact HO
  iintro %_ ⟨Hd, Hs, Hx, Hc, Ho, HO⟩
  isplitl [Hd Hr]
  · isplitl [Hd]; · iexact Hd
    iexact Hr
  isplitl [Hs]; · iexact Hs
  isplitl [Hx]; · iexact Hx
  isplitl [Hc]; · iexact Hc
  isplitl [Ho]
  · iexists _
    isplitl [Ho]; · iexact Ho
    ipureintro
    exact store_step c k arg3 fw fs gx fo ho
  iexact HO

/-- The loop as a whole. -/
theorem loop_run (c : Dev nD) (arg0 : Memref sig .tc .vmem S8x4096 .bf16) (harg0 : arg0.IsWhole)
    (arg3 : Memref sig .tc .vmem S8x14336 .bf16) (harg3 : arg3.IsWhole) (fh : BufOf (F := F) c whM) (fw : BufOf (F := F) c wbM)
    (fs : BufOf (F := F) c sbM) (gx : BufOf (F := F) c xmM) (K : PUnit.{1} → sProp 𝕄) :
    iprop(inv c arg3 fh fw fs gx 0 ⟨⟩ ∗ (inv c arg3 fh fw fs gx k0_t1_loop.trips ⟨⟩ -∗ K ⟨⟩))
      ⊢ wp frame (wpE (defs₀ (F := F)) Variants.none (c : Thread nD τ) none) Set.univ (loopProg arg0 harg0 arg3 harg3) K := by
  have h : iprop(inv c arg3 fh fw fs gx 0 ⟨⟩ ∗ (∀ acc, inv c arg3 fh fw fs gx k0_t1_loop.trips acc -∗
        wp frame (wpE (defs₀ (F := F)) Variants.none (c : Thread nD τ) none) Set.univ (pure PUnit.unit) K))
      ⊢ wp frame (wpE (defs₀ (F := F)) Variants.none (c : Thread nD τ) none) Set.univ (loopProg arg0 harg0 arg3 harg3) K :=
    BI.wand_elim (Scf.wp_for_bind (M := 𝕄) (kk := fun _ => pure PUnit.unit) (Q := K) frame
      (wpE (defs₀ (F := F)) Variants.none (c : Thread nD τ) none) Set.univ
      k0_t1_loop.lb k0_t1_loop.ub k0_t1_loop.st k0_t1_ok PUnit.unit _ (inv c arg3 fh fw fs gx)
      (fun k acc => inv_step c arg0 harg0 arg3 harg3 fh fw fs gx k acc))
  refine BIBase.Entails.trans ?_ h
  iintro ⟨Hi, Hk⟩
  isplitl [Hi]; · iexact Hi
  iintro %acc Hi
  sl_step
  iapply Hk
  iexact Hi

end Cert.Kernel.Hand

end
-- ==== Proof.Body.lean ====
/- The kernel body's run: prologue, loop, and the buffers whole again at the end. -/
module

public import proofs.«01_k».proof.Proof.Join
public import proofs.«01_k».proof.Proof.Loop

@[expose] public section

set_option maxRecDepth 65536
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (Pipeline.UD sig nD τ) ℕ

/-- What the staged activations hold, as contents fixed by their value. -/
def held (c : Dev nD) (arg0 : Memref sig .tc .vmem S8x4096 .bf16) (X : S8x4096.Idx → Elt F .bf16) : BufOf (F := F) c arg0 :=
  arg0.view.write (Elt F) arg0.view.junk X Finset.univ

theorem held_eq (c : Dev nD) (arg0 : Memref sig .tc .vmem S8x4096 .bf16) (X : S8x4096.Idx → Elt F .bf16) (f : BufOf (F := F) c arg0)
    (h : arg0.view.read (Elt F) f = X) : (arg0.view.loc (c : Thread nD τ) ↦[arg0.view.set]{fullShare} f : sProp 𝕄)
      = (arg0.view.loc (c : Thread nD τ) ↦[arg0.view.set]{fullShare} held c arg0 X) :=
  pointsTo_congr fun i hi => eq_on_of_read_eq arg0.view _ _ (h.trans (View.read_write_univ _ _).symm) i hi

/-- The body's result. -/
def bodyOut (c : Dev nD) (arg0 : Memref sig .tc .vmem S8x4096 .bf16) (harg0 : arg0.IsWhole) (X : S8x4096.Idx → Elt F .bf16)
    (fh : BufOf (F := F) c whM) (fsh : BufOf (F := F) c shM) : Vec F S8x14336 .bf16 :=
  outArr c (asW c fh) (asS c fsh) (prologueRun c arg0 harg0 (held c arg0 X)).1

/-- All chunks' cells at zero. -/
def cells (c : Dev nD) : sProp 𝕄 := bigSep Finset.univ fun k : Chunk => (semVal ((c : Thread nD τ), SemLoc.dma (cellSems k).sem) 0 : sProp 𝕄)

theorem stAt_zero (c : Dev nD) (fh : BufOf (F := F) c whM) (fw : BufOf (F := F) c wbM) : stAt c fh fw 0 = flying c fh fw :=
  funext fun i => if_neg (Nat.not_lt_zero _)
theorem stAt_end (c : Dev nD) (fh : BufOf (F := F) c whM) (fw : BufOf (F := F) c wbM) : stAt c fh fw k0_t1_loop.trips = done c fh fw :=
  funext fun i => if_pos i.isLt

/-- From the loop's start to the body's end. -/
theorem tail_run (c : Dev nD) (arg0 : Memref sig .tc .vmem S8x4096 .bf16) (harg0 : arg0.IsWhole)
    (arg3 : Memref sig .tc .vmem S8x14336 .bf16) (harg3 : arg3.IsWhole) (fh : BufOf (F := F) c whM) (fw : BufOf (F := F) c wbM)
    (fs : BufOf (F := F) c sbM) (gx : BufOf (F := F) c xmM) (K : PUnit → sProp 𝕄) :
    iprop(bigSep Finset.univ (flying c fh fw)
        ∗ (sbM.view.loc (c : Thread nD τ) ↦{fullShare} fs) ∗ (xmM.view.loc (c : Thread nD τ) ↦{fullShare} gx)
        ∗ (∃ fc, scM.view.loc (c : Thread nD τ) ↦{fullShare} fc) ∗ (∃ d, owns (c : Thread nD τ) arg3 fullShare d)
        ∗ (∃ W, owes (c : Thread nD τ) 0 W)
        ∗ (iprop((wbM.view.loc (c : Thread nD τ) ↦{fullShare} fw) ∗ (whM.view.loc (c : Thread nD τ) ↦{fullShare} fh) ∗ cells c
            ∗ (sbM.view.loc (c : Thread nD τ) ↦{fullShare} fs) ∗ (xmM.view.loc (c : Thread nD τ) ↦{fullShare} gx)
            ∗ (∃ fc, scM.view.loc (c : Thread nD τ) ↦{fullShare} fc) ∗ owns (c : Thread nD τ) arg3 fullShare (outArr c fw fs gx)
            ∗ (∃ W, owes (c : Thread nD τ) 0 W)) -∗ K ⟨⟩))
      ⊢ wp frame (wpE (defs₀ (F := F)) Variants.none (c : Thread nD τ) none) Set.univ (loopProg arg0 harg0 arg3 harg3) K := by
  have hl := loop_run c arg0 harg0 arg3 harg3 fh fw fs gx K
  unfold inv at hl
  rw [stAt_zero, stAt_end, done_all] at hl
  unfold owns
  iintro ⟨Hf, Hs, Hx, Hc, ⟨%d, %fo, -, Ho⟩, HO, Hk⟩
  iapply hl
  isplitl [Hf Hs Hx Hc Ho HO]
  · isplitl [Hf]; · iexact Hf
    isplitl [Hs]; · iexact Hs
    isplitl [Hx]; · iexact Hx
    isplitl [Hc]; · iexact Hc
    isplitl [Ho]
    · iexists fo
      isplitl [Ho]; · iexact Ho
      ipureintro
      exact fun y hy => absurd hy (Nat.not_lt_zero _)
    iexact HO
  iintro ⟨⟨Hw, Hh, Hv⟩, Hs, Hx, Hc, ⟨%fo', Ho, %h⟩, HO⟩
  iapply Hk
  isplitl [Hw]; · iexact Hw
  isplitl [Hh]; · iexact Hh
  isplitl [Hv]; · unfold cells; iexact Hv
  isplitl [Hs]; · iexact Hs
  isplitl [Hx]; · iexact Hx
  isplitl [Hc]; · iexact Hc
  isplitl [Ho]
  · iexists fo'
    isplitr
    · ipureintro
      refine funext fun y => h y ?_
      have h1 : (y 1).val < 14336 := (y 1).isLt
      rw [trips_eq]; omega
    iexact Ho
  iexact HO

/-- The body's run. -/
theorem bodyRun (c : Dev nD) (arg0 : Memref sig .tc .vmem S8x4096 .bf16) (harg0 : arg0.IsWhole)
    (arg3 : Memref sig .tc .vmem S8x14336 .bf16) (harg3 : arg3.IsWhole) (X : S8x4096.Idx → Elt F .bf16)
    (fh : BufOf (F := F) c whM) (fsh : BufOf (F := F) c shM) (W : Finset (SemLoc sig × Unit)) (K : PUnit → sProp 𝕄) :
    iprop(owns (c : Thread nD τ) arg0 fullShare X ∗ (∃ d, owns (c : Thread nD τ) arg3 fullShare d)
        ∗ (∃ f, wbM.view.loc (c : Thread nD τ) ↦{fullShare} f) ∗ (∃ f, sbM.view.loc (c : Thread nD τ) ↦{fullShare} f)
        ∗ (∃ f, xmM.view.loc (c : Thread nD τ) ↦{fullShare} f) ∗ (∃ f, scM.view.loc (c : Thread nD τ) ↦{fullShare} f)
        ∗ cells c ∗ (semVal ((c : Thread nD τ), SemLoc.dma 30) 0 : sProp 𝕄)
        ∗ (whM.view.loc (c : Thread nD τ) ↦{fullShare} fh) ∗ (shM.view.loc (c : Thread nD τ) ↦{fullShare} fsh)
        ∗ owes (c : Thread nD τ) 0 W
        ∗ (iprop(owns (c : Thread nD τ) arg0 fullShare X ∗ owns (c : Thread nD τ) arg3 fullShare (bodyOut c arg0 harg0 X fh fsh)
            ∗ (∃ f, wbM.view.loc (c : Thread nD τ) ↦{fullShare} f) ∗ (∃ f, sbM.view.loc (c : Thread nD τ) ↦{fullShare} f)
            ∗ (∃ f, xmM.view.loc (c : Thread nD τ) ↦{fullShare} f) ∗ (∃ f, scM.view.loc (c : Thread nD τ) ↦{fullShare} f)
            ∗ cells c ∗ (semVal ((c : Thread nD τ), SemLoc.dma 30) 0 : sProp 𝕄)
            ∗ (whM.view.loc (c : Thread nD τ) ↦{fullShare} fh) ∗ (shM.view.loc (c : Thread nD τ) ↦{fullShare} fsh)
            ∗ (∃ W, owes (c : Thread nD τ) 0 W)) -∗ K ⟨⟩))
      ⊢ wp frame (wpE (defs₀ (F := F)) Variants.none (c : Thread nD τ) none) Set.univ
        (cc0__body (F := F) arg0 harg0 shM (Memref.isWhole_whole _) whM (Memref.isWhole_whole _) arg3 harg3 wbM (Memref.isWhole_whole _)
          sbM (Memref.isWhole_whole _) xmM (Memref.isWhole_whole _) scM (Memref.isWhole_whole _) cc0_scratch4 cc0_scratch5) K := by
  have ht := tail_run c arg0 harg0 arg3 harg3 fh (asW c fh) (asS c fsh) (prologueRun c arg0 harg0 (held c arg0 X)).1 K
  unfold owns at ht
  unfold owns bodyOut
  iintro ⟨⟨%f0, %h0, H0⟩, Ho, ⟨%fw, Hw⟩, ⟨%fs, Hs⟩, ⟨%fx, Hx⟩, Hc, Hv, Hv28, Hh, Hsh, HO, Hk⟩
  have e := bigSep_chunks (done c fh fw)
  rw [done_at c fh fw ⟨0, by decide⟩ ![0, 0] inb_S14336x2048_S512x2048_0_0 (k0_off2_eq _) 2 (by decide),
    done_at c fh fw ⟨1, by decide⟩ ![512, 0] inb_S14336x2048_S512x2048_512_0 (k0_off2_eq _) 3 (by decide),
    done_at c fh fw ⟨2, by decide⟩ ![1024, 0] inb_S14336x2048_S512x2048_1024_0 (k0_off2_eq _) 4 (by decide),
    done_at c fh fw ⟨3, by decide⟩ ![1536, 0] inb_S14336x2048_S512x2048_1536_0 (k0_off2_eq _) 5 (by decide),
    done_at c fh fw ⟨4, by decide⟩ ![2048, 0] inb_S14336x2048_S512x2048_2048_0 (k0_off2_eq _) 6 (by decide),
    done_at c fh fw ⟨5, by decide⟩ ![2560, 0] inb_S14336x2048_S512x2048_2560_0 (k0_off2_eq _) 7 (by decide),
    done_at c fh fw ⟨6, by decide⟩ ![3072, 0] inb_S14336x2048_S512x2048_3072_0 (k0_off2_eq _) 8 (by decide),
    done_at c fh fw ⟨7, by decide⟩ ![3584, 0] inb_S14336x2048_S512x2048_3584_0 (k0_off2_eq _) 9 (by decide),
    done_at c fh fw ⟨8, by decide⟩ ![4096, 0] inb_S14336x2048_S512x2048_4096_0 (k0_off2_eq _) 10 (by decide),
    done_at c fh fw ⟨9, by decide⟩ ![4608, 0] inb_S14336x2048_S512x2048_4608_0 (k0_off2_eq _) 11 (by decide),
    done_at c fh fw ⟨10, by decide⟩ ![5120, 0] inb_S14336x2048_S512x2048_5120_0 (k0_off2_eq _) 12 (by decide),
    done_at c fh fw ⟨11, by decide⟩ ![5632, 0] inb_S14336x2048_S512x2048_5632_0 (k0_off2_eq _) 13 (by decide),
    done_at c fh fw ⟨12, by decide⟩ ![6144, 0] inb_S14336x2048_S512x2048_6144_0 (k0_off2_eq _) 14 (by decide),
    done_at c fh fw ⟨13, by decide⟩ ![6656, 0] inb_S14336x2048_S512x2048_6656_0 (k0_off2_eq _) 15 (by decide),
    done_at c fh fw ⟨14, by decide⟩ ![7168, 0] inb_S14336x2048_S512x2048_7168_0 (k0_off2_eq _) 16 (by decide),
    done_at c fh fw ⟨15, by decide⟩ ![7680, 0] inb_S14336x2048_S512x2048_7680_0 (k0_off2_eq _) 17 (by decide),
    done_at c fh fw ⟨16, by decide⟩ ![8192, 0] inb_S14336x2048_S512x2048_8192_0 (k0_off2_eq _) 18 (by decide),
    done_at c fh fw ⟨17, by decide⟩ ![8704, 0] inb_S14336x2048_S512x2048_8704_0 (k0_off2_eq _) 19 (by decide),
    done_at c fh fw ⟨18, by decide⟩ ![9216, 0] inb_S14336x2048_S512x2048_9216_0 (k0_off2_eq _) 20 (by decide),
    done_at c fh fw ⟨19, by decide⟩ ![9728, 0] inb_S14336x2048_S512x2048_9728_0 (k0_off2_eq _) 21 (by decide),
    done_at c fh fw ⟨20, by decide⟩ ![10240, 0] inb_S14336x2048_S512x2048_10240_0 (k0_off2_eq _) 22 (by decide),
    done_at c fh fw ⟨21, by decide⟩ ![10752, 0] inb_S14336x2048_S512x2048_10752_0 (k0_off2_eq _) 23 (by decide),
    done_at c fh fw ⟨22, by decide⟩ ![11264, 0] inb_S14336x2048_S512x2048_11264_0 (k0_off2_eq _) 24 (by decide),
    done_at c fh fw ⟨23, by decide⟩ ![11776, 0] inb_S14336x2048_S512x2048_11776_0 (k0_off2_eq _) 25 (by decide),
    done_at c fh fw ⟨24, by decide⟩ ![12288, 0] inb_S14336x2048_S512x2048_12288_0 (k0_off2_eq _) 26 (by decide),
    done_at c fh fw ⟨25, by decide⟩ ![12800, 0] inb_S14336x2048_S512x2048_12800_0 (k0_off2_eq _) 27 (by decide),
    done_at c fh fw ⟨26, by decide⟩ ![13312, 0] inb_S14336x2048_S512x2048_13312_0 (k0_off2_eq _) 28 (by decide),
    done_at c fh fw ⟨27, by decide⟩ ![13824, 0] inb_S14336x2048_S512x2048_13824_0 (k0_off2_eq _) 29 (by decide)] at e
  have hd : iprop((wbM.view.loc (c : Thread nD τ) ↦{fullShare} fw) ∗ (whM.view.loc (c : Thread nD τ) ↦{fullShare} fh) ∗ cells c : sProp 𝕄)
      ⊢ _ := Entails.of_eq ((done_all c fh fw).symm.trans e)
  ihave H0 := (Entails.of_eq (held_eq c arg0 X f0 h0)) $$ H0
  ihave Hd := hd $$ [Hw Hh Hv]
  · isplitl [Hw]; · iexact Hw
    isplitl [Hh]; · iexact Hh
    iexact Hv
  icases Hd with ⟨⟨Hb0, Hh0, Hv0⟩, ⟨Hb1, Hh1, Hv1⟩, ⟨Hb2, Hh2, Hv2⟩, ⟨Hb3, Hh3, Hv3⟩, ⟨Hb4, Hh4, Hv4⟩, ⟨Hb5, Hh5, Hv5⟩, ⟨Hb6, Hh6, Hv6⟩, ⟨Hb7, Hh7, Hv7⟩, ⟨Hb8, Hh8, Hv8⟩, ⟨Hb9, Hh9, Hv9⟩, ⟨Hb10, Hh10, Hv10⟩, ⟨Hb11, Hh11, Hv11⟩, ⟨Hb12, Hh12, Hv12⟩, ⟨Hb13, Hh13, Hv13⟩, ⟨Hb14, Hh14, Hv14⟩, ⟨Hb15, Hh15, Hv15⟩, ⟨Hb16, Hh16, Hv16⟩, ⟨Hb17, Hh17, Hv17⟩, ⟨Hb18, Hh18, Hv18⟩, ⟨Hb19, Hh19, Hv19⟩, ⟨Hb20, Hh20, Hv20⟩, ⟨Hb21, Hh21, Hv21⟩, ⟨Hb22, Hh22, Hv22⟩, ⟨Hb23, Hh23, Hv23⟩, ⟨Hb24, Hh24, Hv24⟩, ⟨Hb25, Hh25, Hv25⟩, ⟨Hb26, Hh26, Hv26⟩, ⟨Hb27, Hh27, Hv27⟩⟩
  iapply ((prologueRun c arg0 harg0 (held c arg0 X)).2 arg3 harg3 fh fw fsh fs fx W K)
  isplitl [Hsh]; · iexact Hsh
  isplitl [Hb0]; · iexact Hb0
  isplitl [Hh0]; · iexact Hh0
  isplitl [Hv0]; · iexact Hv0
  isplitl [Hb1]; · iexact Hb1
  isplitl [Hh1]; · iexact Hh1
  isplitl [Hv1]; · iexact Hv1
  isplitl [Hb2]; · iexact Hb2
  isplitl [Hh2]; · iexact Hh2
  isplitl [Hv2]; · iexact Hv2
  isplitl [Hb3]; · iexact Hb3
  isplitl [Hh3]; · iexact Hh3
  isplitl [Hv3]; · iexact Hv3
  isplitl [Hb4]; · iexact Hb4
  isplitl [Hh4]; · iexact Hh4
  isplitl [Hv4]; · iexact Hv4
  isplitl [Hb5]; · iexact Hb5
  isplitl [Hh5]; · iexact Hh5
  isplitl [Hv5]; · iexact Hv5
  isplitl [Hb6]; · iexact Hb6
  isplitl [Hh6]; · iexact Hh6
  isplitl [Hv6]; · iexact Hv6
  isplitl [Hb7]; · iexact Hb7
  isplitl [Hh7]; · iexact Hh7
  isplitl [Hv7]; · iexact Hv7
  isplitl [Hb8]; · iexact Hb8
  isplitl [Hh8]; · iexact Hh8
  isplitl [Hv8]; · iexact Hv8
  isplitl [Hb9]; · iexact Hb9
  isplitl [Hh9]; · iexact Hh9
  isplitl [Hv9]; · iexact Hv9
  isplitl [Hb10]; · iexact Hb10
  isplitl [Hh10]; · iexact Hh10
  isplitl [Hv10]; · iexact Hv10
  isplitl [Hb11]; · iexact Hb11
  isplitl [Hh11]; · iexact Hh11
  isplitl [Hv11]; · iexact Hv11
  isplitl [Hb12]; · iexact Hb12
  isplitl [Hh12]; · iexact Hh12
  isplitl [Hv12]; · iexact Hv12
  isplitl [Hb13]; · iexact Hb13
  isplitl [Hh13]; · iexact Hh13
  isplitl [Hv13]; · iexact Hv13
  isplitl [Hb14]; · iexact Hb14
  isplitl [Hh14]; · iexact Hh14
  isplitl [Hv14]; · iexact Hv14
  isplitl [Hb15]; · iexact Hb15
  isplitl [Hh15]; · iexact Hh15
  isplitl [Hv15]; · iexact Hv15
  isplitl [Hb16]; · iexact Hb16
  isplitl [Hh16]; · iexact Hh16
  isplitl [Hv16]; · iexact Hv16
  isplitl [Hb17]; · iexact Hb17
  isplitl [Hh17]; · iexact Hh17
  isplitl [Hv17]; · iexact Hv17
  isplitl [Hb18]; · iexact Hb18
  isplitl [Hh18]; · iexact Hh18
  isplitl [Hv18]; · iexact Hv18
  isplitl [Hb19]; · iexact Hb19
  isplitl [Hh19]; · iexact Hh19
  isplitl [Hv19]; · iexact Hv19
  isplitl [Hb20]; · iexact Hb20
  isplitl [Hh20]; · iexact Hh20
  isplitl [Hv20]; · iexact Hv20
  isplitl [Hb21]; · iexact Hb21
  isplitl [Hh21]; · iexact Hh21
  isplitl [Hv21]; · iexact Hv21
  isplitl [Hb22]; · iexact Hb22
  isplitl [Hh22]; · iexact Hh22
  isplitl [Hv22]; · iexact Hv22
  isplitl [Hb23]; · iexact Hb23
  isplitl [Hh23]; · iexact Hh23
  isplitl [Hv23]; · iexact Hv23
  isplitl [Hb24]; · iexact Hb24
  isplitl [Hh24]; · iexact Hh24
  isplitl [Hv24]; · iexact Hv24
  isplitl [Hb25]; · iexact Hb25
  isplitl [Hh25]; · iexact Hh25
  isplitl [Hv25]; · iexact Hv25
  isplitl [Hb26]; · iexact Hb26
  isplitl [Hh26]; · iexact Hh26
  isplitl [Hv26]; · iexact Hv26
  isplitl [Hb27]; · iexact Hb27
  isplitl [Hh27]; · iexact Hh27
  isplitl [Hv27]; · iexact Hv27
  isplitl [Hv28]; · iexact Hv28
  isplitl [Hs]; · iexact Hs
  isplitl [Hx]; · iexact Hx
  isplitl [H0]; · iexact H0
  isplitl [HO]; · iexact HO
  iintro ⟨Hf, Hsh, Hv28, Hs, Hx, H0, HO⟩
  iapply ht
  isplitl [Hf]; · iexact Hf
  isplitl [Hs]; · iexact Hs
  isplitl [Hx]; · iexact Hx
  isplitl [Hc]; · iexact Hc
  isplitl [Ho]; · iexact Ho
  isplitl [HO]; · iexact HO
  iintro ⟨Hw, Hh, Hv, Hs, Hx, Hc, Ho, HO⟩
  iapply Hk
  isplitl [H0]
  · iexists (held c arg0 X)
    isplitr
    · ipureintro; exact View.read_write_univ _ _
    iexact H0
  isplitl [Ho]; · iexact Ho
  isplitl [Hw]; · iexists _; iexact Hw
  isplitl [Hs]; · iexists _; iexact Hs
  isplitl [Hx]; · iexists _; iexact Hx
  isplitl [Hc]; · iexact Hc
  isplitl [Hv]; · iexact Hv
  isplitl [Hv28]; · iexact Hv28
  isplitl [Hh]; · iexact Hh
  isplitl [Hsh]; · iexact Hsh
  iexact HO

end Cert.Kernel.Hand

end
-- ==== Proof.Frame.lean ====
/- The whole program's run: the arguments end as launched, every semaphore ends at zero, and the result is the tail's value. -/
module

public import proofs.«01_k».proof.Proof.Body
public import proofs.«01_k».proof.Proof.Gen.Kernel.Frame

@[expose] public section

set_option maxRecDepth 65536
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open Idealize.ShloMosaic.Pipeline
open scoped Idealize.SL.BI
open Idealize.SL.BI.BIBase Idealize.SL.BI.Laws Idealize.SL.ProofMode Idealize.SL.Sem

variable {F : FTy → Type} [FloatOps F]
local notation "𝕄" => MT nD τ sig Unit (Elt F) ℕ (Pipeline.UD sig nD τ) ℕ

/-! ## The kernel's own semaphores and operands -/

/-- The kernel's 29 copy semaphores. -/
def osem0 : Fin 29 → SemLoc sig := fun i => SemLoc.dma ⟨i.val + 2, by have := i.isLt; show i.val + 2 < 31; omega⟩
/-- The operands the kernel copies itself. -/
def H0 : Finset (Ref sig .tc) := {main_arg1, main_arg2}
theorem ownSemFacts0 : Pipeline.OwnSemFacts spec0 osem0 := by decide
theorem H0_sub : H0 ⊆ Pipeline.restRefs sig spec0 := by decide

theorem cell_no (k : Chunk) (sm : DmaSem sig) (h : (cellSems k).sem = sm) (c : Dev nD) :
    (semVal ((c : Thread nD τ), SemLoc.dma (cellSems k).sem) 0 : sProp 𝕄) = semVal ((c : Thread nD τ), SemLoc.dma sm) 0 := by rw [h]

theorem cells_eq (c : Dev nD) : (cells c : sProp 𝕄) = iprop((semVal ((c : Thread nD τ), SemLoc.dma 2) 0 : sProp 𝕄) ∗ (semVal ((c : Thread nD τ), SemLoc.dma 3) 0 : sProp 𝕄) ∗ (semVal ((c : Thread nD τ), SemLoc.dma 4) 0 : sProp 𝕄) ∗ (semVal ((c : Thread nD τ), SemLoc.dma 5) 0 : sProp 𝕄) ∗ (semVal ((c : Thread nD τ), SemLoc.dma 6) 0 : sProp 𝕄) ∗ (semVal ((c : Thread nD τ), SemLoc.dma 7) 0 : sProp 𝕄) ∗ (semVal ((c : Thread nD τ), SemLoc.dma 8) 0 : sProp 𝕄) ∗ (semVal ((c : Thread nD τ), SemLoc.dma 9) 0 : sProp 𝕄) ∗ (semVal ((c : Thread nD τ), SemLoc.dma 10) 0 : sProp 𝕄) ∗ (semVal ((c : Thread nD τ), SemLoc.dma 11) 0 : sProp 𝕄) ∗ (semVal ((c : Thread nD τ), SemLoc.dma 12) 0 : sProp 𝕄) ∗ (semVal ((c : Thread nD τ), SemLoc.dma 13) 0 : sProp 𝕄) ∗ (semVal ((c : Thread nD τ), SemLoc.dma 14) 0 : sProp 𝕄) ∗ (semVal ((c : Thread nD τ), SemLoc.dma 15) 0 : sProp 𝕄) ∗ (semVal ((c : Thread nD τ), SemLoc.dma 16) 0 : sProp 𝕄) ∗ (semVal ((c : Thread nD τ), SemLoc.dma 17) 0 : sProp 𝕄) ∗ (semVal ((c : Thread nD τ), SemLoc.dma 18) 0 : sProp 𝕄) ∗ (semVal ((c : Thread nD τ), SemLoc.dma 19) 0 : sProp 𝕄) ∗ (semVal ((c : Thread nD τ), SemLoc.dma 20) 0 : sProp 𝕄) ∗ (semVal ((c : Thread nD τ), SemLoc.dma 21) 0 : sProp 𝕄) ∗ (semVal ((c : Thread nD τ), SemLoc.dma 22) 0 : sProp 𝕄) ∗ (semVal ((c : Thread nD τ), SemLoc.dma 23) 0 : sProp 𝕄) ∗ (semVal ((c : Thread nD τ), SemLoc.dma 24) 0 : sProp 𝕄) ∗ (semVal ((c : Thread nD τ), SemLoc.dma 25) 0 : sProp 𝕄) ∗ (semVal ((c : Thread nD τ), SemLoc.dma 26) 0 : sProp 𝕄) ∗ (semVal ((c : Thread nD τ), SemLoc.dma 27) 0 : sProp 𝕄) ∗ (semVal ((c : Thread nD τ), SemLoc.dma 28) 0 : sProp 𝕄) ∗ (semVal ((c : Thread nD τ), SemLoc.dma 29) 0 : sProp 𝕄)) := by
  unfold cells
  rw [bigSep_chunks]
  rw [cell_no ⟨0, by decide⟩ 2 (by decide), cell_no ⟨1, by decide⟩ 3 (by decide), cell_no ⟨2, by decide⟩ 4 (by decide), cell_no ⟨3, by decide⟩ 5 (by decide), cell_no ⟨4, by decide⟩ 6 (by decide), cell_no ⟨5, by decide⟩ 7 (by decide), cell_no ⟨6, by decide⟩ 8 (by decide), cell_no ⟨7, by decide⟩ 9 (by decide), cell_no ⟨8, by decide⟩ 10 (by decide), cell_no ⟨9, by decide⟩ 11 (by decide), cell_no ⟨10, by decide⟩ 12 (by decide), cell_no ⟨11, by decide⟩ 13 (by decide), cell_no ⟨12, by decide⟩ 14 (by decide), cell_no ⟨13, by decide⟩ 15 (by decide), cell_no ⟨14, by decide⟩ 16 (by decide), cell_no ⟨15, by decide⟩ 17 (by decide), cell_no ⟨16, by decide⟩ 18 (by decide), cell_no ⟨17, by decide⟩ 19 (by decide), cell_no ⟨18, by decide⟩ 20 (by decide), cell_no ⟨19, by decide⟩ 21 (by decide), cell_no ⟨20, by decide⟩ 22 (by decide), cell_no ⟨21, by decide⟩ 23 (by decide), cell_no ⟨22, by decide⟩ 24 (by decide), cell_no ⟨23, by decide⟩ 25 (by decide), cell_no ⟨24, by decide⟩ 26 (by decide), cell_no ⟨25, by decide⟩ 27 (by decide), cell_no ⟨26, by decide⟩ 28 (by decide), cell_no ⟨27, by decide⟩ 29 (by decide)]

theorem sems_eq (c : Dev nD) : (Pipeline.ownSems0 osem0 c : sProp 𝕄) = iprop((semVal ((c : Thread nD τ), SemLoc.dma 2) 0 : sProp 𝕄) ∗ (semVal ((c : Thread nD τ), SemLoc.dma 3) 0 : sProp 𝕄) ∗ (semVal ((c : Thread nD τ), SemLoc.dma 4) 0 : sProp 𝕄) ∗ (semVal ((c : Thread nD τ), SemLoc.dma 5) 0 : sProp 𝕄) ∗ (semVal ((c : Thread nD τ), SemLoc.dma 6) 0 : sProp 𝕄) ∗ (semVal ((c : Thread nD τ), SemLoc.dma 7) 0 : sProp 𝕄) ∗ (semVal ((c : Thread nD τ), SemLoc.dma 8) 0 : sProp 𝕄) ∗ (semVal ((c : Thread nD τ), SemLoc.dma 9) 0 : sProp 𝕄) ∗ (semVal ((c : Thread nD τ), SemLoc.dma 10) 0 : sProp 𝕄) ∗ (semVal ((c : Thread nD τ), SemLoc.dma 11) 0 : sProp 𝕄) ∗ (semVal ((c : Thread nD τ), SemLoc.dma 12) 0 : sProp 𝕄) ∗ (semVal ((c : Thread nD τ), SemLoc.dma 13) 0 : sProp 𝕄) ∗ (semVal ((c : Thread nD τ), SemLoc.dma 14) 0 : sProp 𝕄) ∗ (semVal ((c : Thread nD τ), SemLoc.dma 15) 0 : sProp 𝕄) ∗ (semVal ((c : Thread nD τ), SemLoc.dma 16) 0 : sProp 𝕄) ∗ (semVal ((c : Thread nD τ), SemLoc.dma 17) 0 : sProp 𝕄) ∗ (semVal ((c : Thread nD τ), SemLoc.dma 18) 0 : sProp 𝕄) ∗ (semVal ((c : Thread nD τ), SemLoc.dma 19) 0 : sProp 𝕄) ∗ (semVal ((c : Thread nD τ), SemLoc.dma 20) 0 : sProp 𝕄) ∗ (semVal ((c : Thread nD τ), SemLoc.dma 21) 0 : sProp 𝕄) ∗ (semVal ((c : Thread nD τ), SemLoc.dma 22) 0 : sProp 𝕄) ∗ (semVal ((c : Thread nD τ), SemLoc.dma 23) 0 : sProp 𝕄) ∗ (semVal ((c : Thread nD τ), SemLoc.dma 24) 0 : sProp 𝕄) ∗ (semVal ((c : Thread nD τ), SemLoc.dma 25) 0 : sProp 𝕄) ∗ (semVal ((c : Thread nD τ), SemLoc.dma 26) 0 : sProp 𝕄) ∗ (semVal ((c : Thread nD τ), SemLoc.dma 27) 0 : sProp 𝕄) ∗ (semVal ((c : Thread nD τ), SemLoc.dma 28) 0 : sProp 𝕄) ∗ (semVal ((c : Thread nD τ), SemLoc.dma 29) 0 : sProp 𝕄) ∗ (semVal ((c : Thread nD τ), SemLoc.dma 30) 0 : sProp 𝕄)) := by
  rw [Pipeline.ownSems0_eq_of_list c osem0 [0, 1, 2, 3, 4, 5, 6, 7, 8, 9, 10, 11, 12, 13, 14, 15, 16, 17, 18, 19, 20, 21, 22, 23, 24, 25, 26, 27, 28] (by decide) (by decide)]; rfl

theorem sems_open (c : Dev nD) : (Pipeline.ownSems0 osem0 c : sProp 𝕄) ⊢ iprop(cells c ∗ semVal ((c : Thread nD τ), SemLoc.dma 30) 0) := by
  rw [sems_eq, cells_eq]
  iintro ⟨H0, H1, H2, H3, H4, H5, H6, H7, H8, H9, H10, H11, H12, H13, H14, H15, H16, H17, H18, H19, H20, H21, H22, H23, H24, H25, H26, H27, H28⟩
  isplitr [H28]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    iexact H27
  iexact H28

theorem sems_close (c : Dev nD) : iprop(cells c ∗ semVal ((c : Thread nD τ), SemLoc.dma 30) 0 : sProp 𝕄) ⊢ Pipeline.ownSems0 osem0 c := by
  rw [sems_eq, cells_eq]
  iintro ⟨⟨H0, H1, H2, H3, H4, H5, H6, H7, H8, H9, H10, H11, H12, H13, H14, H15, H16, H17, H18, H19, H20, H21, H22, H23, H24, H25, H26, H27⟩, H28⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  iexact H28

/-! ## The proof data -/

variable (m : (ℓ : Loc nD τ sig) → Buf (Elt F) ℓ) (ρ : Dev nD → PrngReg)

/-- The staging memrefs at a point. -/
abbrev ms0_0 (t : Fin cfg0.N) : Memref sig .tc .vmem S8x4096 .bf16 := win0_0.stage (cfg0.slots t 0)
abbrev ms0_1 (t : Fin cfg0.N) : Memref sig .tc .vmem S8x14336 .bf16 := win0_1.stage (cfg0.slots t 1)

/-- What the body computes from the program's buffers. -/
def outAt (c : Dev nD) (t : Fin cfg0.N) : S8x14336.Idx → Elt F .bf16 :=
  bodyOut c (win0_0.stage (cfg0.slots t 0)) (hstage0_0 0) (iblk m c 0 t) (V m c main_arg1) (V m c main_arg2)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => outAt m c t
  Φ _ := Pipeline.ΦD osem0 spec0 H0 (V m) c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = outAt m c t := by dsimp only [dats]

theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)

theorem Phi_eq (c : Dev nD) : (Pipeline.ΦD osem0 spec0 H0 (V m) c : sProp 𝕄)
    = iprop(((∃ f : Buf (Elt F) ((c : Thread nD τ).loc cc0_scratch0), ((c : Thread nD τ).loc cc0_scratch0) ↦{fullShare} f)
        ∗ (∃ f : Buf (Elt F) ((c : Thread nD τ).loc cc0_scratch1), ((c : Thread nD τ).loc cc0_scratch1) ↦{fullShare} f)
        ∗ (∃ f : Buf (Elt F) ((c : Thread nD τ).loc cc0_scratch2), ((c : Thread nD τ).loc cc0_scratch2) ↦{fullShare} f)
        ∗ (∃ f : Buf (Elt F) ((c : Thread nD τ).loc cc0_scratch3), ((c : Thread nD τ).loc cc0_scratch3) ↦{fullShare} f))
      ∗ (∃ r, prngReg c r) ∗ Pipeline.ownSems0 osem0 c
      ∗ ((c : Thread nD τ).loc main_arg1 ↦{fullShare} V m c main_arg1) ∗ ((c : Thread nD τ).loc main_arg2 ↦{fullShare} V m c main_arg2)) := by
  rw [Pipeline.ΦD_eq, scopedRest0_eq, BI.bigSep_eq_bigSepL_of_eq [main_arg1, main_arg2] (by decide) (by decide)]
  rfl

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t))

/-- The body's run over what the pipeline hands it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl, after0_0, after0_1]
  rw [show (dats m 0 c).Φ t.castSucc = Pipeline.ΦD osem0 spec0 H0 (V m) c from rfl, Phi_eq]
  simp only [before0_0]
  unfold Dat.owesAt Pipeline.owesWithin
  rw [show (dats m 0 c).owed t.castSucc = 0 from rfl, show (dats m 0 c).owed t.succ = 0 from rfl]
  unfold outAt
  have hb := bodyRun c (win0_0.stage (cfg0.slots t 0)) (hstage0_0 0) (win0_1.stage (cfg0.slots t 1)) (hstage0_1 0) (iblk m c 0 t)
    (V m c main_arg1) (V m c main_arg2)
  iintro ⟨⟨⟨HS0, HS1, HS2, HS3⟩, Hg, Hq, Hh1, Hh2⟩, ⟨%W, -, HW⟩, ⟨%d0, H0⟩, ⟨%d1, H1⟩⟩
  ihave Hq := (sems_open (F := F) c) $$ Hq
  icases Hq with ⟨Hq, Hq30⟩
  iapply (hb W _)
  isplitl [H0]; · iexact H0
  isplitl [H1]; · iexists _; iexact H1
  isplitl [HS0]; · iexact HS0
  isplitl [HS1]; · iexact HS1
  isplitl [HS2]; · iexact HS2
  isplitl [HS3]; · iexact HS3
  isplitl [Hq]; · iexact Hq
  isplitl [Hq30]; · iexact Hq30
  isplitl [Hh1]; · iexact Hh1
  isplitl [Hh2]; · iexact Hh2
  isplitl [HW]; · iexact HW
  iintro ⟨H0, H1, HS0, HS1, HS2, HS3, Hq, Hq30, Hh1, Hh2, ⟨%W', HW'⟩⟩
  isplitl [HS0 HS1 HS2 HS3 Hg Hq Hq30 Hh1 Hh2]
  · isplitl [HS0 HS1 HS2 HS3]
    · isplitl [HS0]; · iexact HS0
      isplitl [HS1]; · iexact HS1
      isplitl [HS2]; · iexact HS2
      iexact HS3
    isplitl [Hg]; · iexact Hg
    isplitl [Hq Hq30]
    · iapply (sems_close (F := F) c)
      isplitl [Hq]; · iexact Hq
      iexact Hq30
    isplitl [Hh1]; · iexact Hh1
    iexact Hh2
  isplitl [HW']
  · iexists W'; isplitr; · ipureintro; exact fun _ _ => Or.inl trivial
    iexact HW'
  isplitl [H0]; · iexact H0
  iexact H1

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

/-- No host operation after the region writes `main_arg0`: it ends as launched. -/
theorem end_arg0 (dats : (p : Fin _) → (c : Dev nD) → Dat τ (Elt F) Unit ℕ (Pipeline.UD sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation after the region writes `main_arg1`: it ends as launched. -/
theorem end_arg1 (dats : (p : Fin _) → (c : Dev nD) → Dat τ (Elt F) Unit ℕ (Pipeline.UD sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation after the region writes `main_arg2`: it ends as launched. -/
theorem end_arg2 (dats : (p : Fin _) → (c : Dev nD) → Dat τ (Elt F) Unit ℕ (Pipeline.UD sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- The host line after the region touches neither operand the kernel copies. -/
theorem tail_sub : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  subst hops
  refine Pipeline.sub_tailRefsBut _ _ _ op ((List.forall_iff_forall_mem.mp hostOps1_sub) op hop) (fun k => k.elim0) ?_
  simp only [hostOps1, List.mem_cons, List.mem_nil_iff, or_false] at hop
  subst hop
  intro b hb
  simp only [H0, Finset.mem_insert, Finset.mem_singleton] at hb
  rcases hb with rfl | rfl
  all_goals
    intro h
    simp only [StableHlo.reshape_bufs, Finset.mem_insert, Finset.mem_singleton] at h
    rcases h with h | h
    all_goals exact absurd h (StableHlo.devRef_ne_of_ne (by decide))

theorem hmainD : Pipeline.HMainK (Ix := Unit) (Name := ℕ) (U := Pipeline.UD sig nD τ) (Lvl := ℕ) cfgs 0 defs₀ Variants.none m (main (F := F)) (V m)
      (fun _ => Pipeline.chain ([hostOps1].map StableHlo.seq)) :=
  Pipeline.hmain_around cfgs 0 defs₀ Variants.none m main [hostOps0] [hostOps1] (by simp only [List.Forall]; exact hostOps0_sub)
    (by simp only [List.Forall]; exact hostOps0_fresh) main_chain

set_option backward.isDefEq.respectTransparency.types false in
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_dma_around (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V₀ := V0 m) (opss := [hostOps1]) (hsub := tail_sub) (hfresh := sfx_fresh) (hkeep := sfx_keeps)
    (hmain := hmainD m) (hA := A_eq m) (hin := fun _ => .rfl) (hout := fun _ => .rfl)

/-- The run with everything the claims read: the arguments, the semaphores and the result. -/
theorem run_full : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.mem ((c.tc : Thread nD τ).loc main_v2) = Pipeline.afterTail₀ cfgs (dats m) 0 (V0 m) [hostOps1] c main_v2)
      ∧ r.2.sem = fun _ => 0) :=
  (θ_run defs _ _).mono (fun _ h => ⟨fun c => ⟨⟨
      ((h.1 c).2 main_arg0 (Pipeline.mem_restRefs_of main_arg0 (by decide) (by decide))).trans (end_arg0 m (dats m) c),
      ((h.1 c).2 main_arg1 (Pipeline.mem_restRefs_of main_arg1 (by decide) (by decide))).trans (end_arg1 m (dats m) c),
      ((h.1 c).2 main_arg2 (Pipeline.mem_restRefs_of main_arg2 (by decide) (by decide))).trans (end_arg2 m (dats m) c)⟩,
      (h.1 c).2 main_v2 (Pipeline.mem_restRefs_of main_v2 (by decide) (by decide))⟩, h.2⟩) (run_main m ρ)

/-- The frame claim's run. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => (h.1 c).1, h.2⟩) (run_full m ρ)

end Cert.Kernel.Hand

end
-- ==== Proof.Ideal.Setup.lean ====
/- The resources the kernel's body moves: the weight buffer cut into its 28 chunks, one semaphore cell a chunk. -/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Transfers
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's algebra: the pipeline library's beside the transfers' counters. -/
local notation "𝕄" => MT nD τ sig Unit (Elt F) ℕ (Pipeline.UD sig nD τ) ℕ

/-- A chunk of 512 output rows. -/
abbrev Chunk : Type := Fin k0_t1_loop.trips

theorem trips_eq : k0_t1_loop.trips = 28 := by decide

/-- The weight codes in HBM, the scale codes in HBM, and the kernel's scratch buffers. -/
abbrev whM : Memref sig .tc .hbm S14336x2048 .i8 := Memref.whole main_arg1
abbrev shM : Memref sig .tc .hbm S14336x128 .i8 := Memref.whole main_arg2
abbrev wbM : Memref sig .tc .vmem S14336x2048 .i8 := Memref.whole cc0_scratch0
abbrev sbM : Memref sig .tc .vmem S14336x128 .i8 := Memref.whole cc0_scratch1
abbrev xmM : Memref sig .tc .vmem S16x64x256 .bf16 := Memref.whole cc0_scratch2
abbrev scM : Memref sig .tc .vmem S128x512 .f32 := Memref.whole cc0_scratch3

/-- The rectangle of chunk `k`'s 512 rows. -/
abbrev chunkRect (k : Chunk) : Rect S14336x2048 := Rect.unit (s := S14336x2048) (k0_off2 k) S512x2048.size (k0_off2_inb k)
/-- Chunk `k` of the scratch copy, and of the array in HBM. -/
abbrev wb (k : Chunk) : Memref sig .tc .vmem S512x2048 .i8 := wbM.slice (chunkRect k) (fun _ => rfl)
abbrev wh (k : Chunk) : Memref sig .tc .hbm S512x2048 .i8 := whM.slice (chunkRect k) (fun _ => rfl)
/-- Chunk `k`'s semaphore cell. -/
abbrev cellSems (k : Chunk) : DmaSems sig S_ :=
  (cc0_scratch4.slice (Rect.unit (s := S28) (k0_off1 k) S1.size (k0_off1_inb k))).squeeze S_ squeezes_S1_S_

/-- The contents of a buffer of `M`'s location on device `c`. -/
abbrev BufOf (c : Dev nD) {sp : Space} {S : Shape} {e : EltTy} (M : Memref sig .tc sp S e) : Type := Buf (Elt F) (M.view.loc (c : Thread nD τ))

/-- A load of 128 code columns of chunk `k` stays inside the chunk. -/
theorem load_in (k : Chunk) (off : Fin 2 → ℕ) (inb) (j : ℕ) (h : off = ![512 * k.val, j]) (hj : j + 128 ≤ 2048) :
    wbM.view.setOn (Rect.unit (s := S14336x2048) off S512x128.size inb).toLoadRect.set ⊆ (wb k).view.set := by
  refine Memref.setOn_subset_slice_of_within wbM (chunkRect k) (fun _ => rfl) _ ?_
  subst h
  refine decide_eq_true fun a => ?_
  have h2 := k0_off2_eq k
  have e : (chunkRect k).off = ![512 * k.val, 0] := h2
  rw [e]
  match a with
  | 0 => exact ⟨Nat.le_refl _, by show 512 * k.val + 1 * (512 - 1) < 512 * k.val + 1 * 512; omega, .inl rfl⟩
  | 1 => exact ⟨Nat.zero_le _, by show j + 1 * (128 - 1) < 0 + 1 * 2048; omega, .inl rfl⟩

/-- Chunk `k` landed: its rows of the scratch hold `fw`, the HBM rows it came from are back, its cell is at zero. -/
def done (c : Dev nD) (fh : BufOf (F := F) c whM) (fw : BufOf (F := F) c wbM) (k : Chunk) : sProp 𝕄 :=
  iprop(((wb k).view.loc (c : Thread nD τ) ↦[(wb k).view.set]{fullShare} fw)
    ∗ ((wh k).view.loc (c : Thread nD τ) ↦[(wh k).view.set]{fullShare} fh)
    ∗ semVal ((c : Thread nD τ), SemLoc.dma (cellSems k).sem) 0)

/-- Chunk `k` in flight. -/
def flying (c : Dev nD) (fh : BufOf (F := F) c whM) (fw : BufOf (F := F) c wbM) (k : Chunk) : sProp 𝕄 :=
  Transfers.Flight (countersEmb (U := Pipeline.UD sig nD τ)) (c : Thread nD τ) (SemLoc.dma (cellSems k).sem) ()
    ((wb k).view.dmaCredit)
    iprop(((wb k).view.loc (c : Thread nD τ) ↦[(wb k).view.set]{fullShare} fw)
      ∗ ((wh k).view.loc (c : Thread nD τ) ↦[(wh k).view.set]{fullShare} fh))

/-- Chunk `k`'s rows at an offset written as the kernel writes it. -/
abbrev wbO (o : Fin 2 → ℕ) (h : ∀ a, o a + S512x2048.size a ≤ S14336x2048.size a) : Memref sig .tc .vmem S512x2048 .i8 :=
  wbM.slice (Rect.unit (s := S14336x2048) o S512x2048.size h) (fun _ => rfl)
abbrev whO (o : Fin 2 → ℕ) (h : ∀ a, o a + S512x2048.size a ≤ S14336x2048.size a) : Memref sig .tc .hbm S512x2048 .i8 :=
  whM.slice (Rect.unit (s := S14336x2048) o S512x2048.size h) (fun _ => rfl)

/-- The HBM contents as contents of the scratch copy (same shape, same codes). -/
def asW (c : Dev nD) (fh : BufOf (F := F) c whM) : BufOf (F := F) c wbM := fun i => fh i
/-- The same for the scale codes. -/
def asS (c : Dev nD) (fh : BufOf (F := F) c shM) : BufOf (F := F) c sbM := fun i => fh i

/-- Two contents a view reads alike agree on the view's elements. -/
theorem eq_on_of_read_eq {κ : Kind} {sp : Space} {s : Shape} {e : EltTy} (v : View sig κ sp s e) (f g : v.ty.Contents (Elt F))
    (h : v.read (Elt F) f = v.read (Elt F) g) : ∀ i ∈ v.set, f i = g i := by
  intro i hi
  obtain ⟨x, rfl⟩ : ∃ x, v.emb x = i := by simpa [View.set] using hi
  have := congrFun h x
  rw [View.read_apply, View.read_apply] at this
  exact cast_inj _ |>.mp this

/-- A flight issued with the kernel's literal offsets is chunk `k`'s flight. -/
theorem land (c : Dev nD) (k : Chunk) (o : Fin 2 → ℕ) (h) (ho : k0_off2 k = o) (sm : DmaSem sig) (hsm : (cellSems k).sem = sm)
    (fh : BufOf (F := F) c whM) (fd : BufOf (F := F) c wbM) (x : S512x2048.Idx → Elt F .i8) (hx : x = (whO o h).view.read (Elt F) fh) :
    (Transfers.Flight (countersEmb (U := Pipeline.UD sig nD τ)) (c : Thread nD τ) (SemLoc.dma sm) () 32768
      iprop(((wbO o h).view.loc (c : Thread nD τ) ↦[(wbO o h).view.set]{fullShare} (wbO o h).view.writes (Elt F) fd [⟨Rect.whole S512x2048, x⟩])
        ∗ ((whO o h).view.loc (c : Thread nD τ) ↦[(whO o h).view.set]{fullShare} fh)) : sProp 𝕄)
      ⊢ flying c fh (asW c fh) k := by
  subst ho hsm hx
  unfold flying
  refine Transfers.Flight_mono (countersEmb (U := Pipeline.UD sig nD τ)) (c : Thread nD τ) (sep_mono (Entails.of_eq ?_) .rfl)
  refine pointsTo_congr fun i hi => ?_
  refine eq_on_of_read_eq (wb k).view _ _ ?_ i hi
  exact (View.read_writes_whole _ _ _).trans rfl

/-- A product over the chunks, written out. -/
theorem bigSep_chunks (Φ : Chunk → sProp 𝕄) :
    bigSep Finset.univ Φ = iprop(Φ ⟨0, by decide⟩ ∗ Φ ⟨1, by decide⟩ ∗ Φ ⟨2, by decide⟩ ∗ Φ ⟨3, by decide⟩ ∗ Φ ⟨4, by decide⟩ ∗ Φ ⟨5, by decide⟩ ∗ Φ ⟨6, by decide⟩ ∗ Φ ⟨7, by decide⟩ ∗ Φ ⟨8, by decide⟩ ∗ Φ ⟨9, by decide⟩ ∗ Φ ⟨10, by decide⟩ ∗ Φ ⟨11, by decide⟩ ∗ Φ ⟨12, by decide⟩ ∗ Φ ⟨13, by decide⟩ ∗ Φ ⟨14, by decide⟩ ∗ Φ ⟨15, by decide⟩ ∗ Φ ⟨16, by decide⟩ ∗ Φ ⟨17, by decide⟩ ∗ Φ ⟨18, by decide⟩ ∗ Φ ⟨19, by decide⟩ ∗ Φ ⟨20, by decide⟩ ∗ Φ ⟨21, by decide⟩ ∗ Φ ⟨22, by decide⟩ ∗ Φ ⟨23, by decide⟩ ∗ Φ ⟨24, by decide⟩ ∗ Φ ⟨25, by decide⟩ ∗ Φ ⟨26, by decide⟩ ∗ Φ ⟨27, by decide⟩) := by
  rw [BI.bigSep_eq_bigSepL_of_eq ([⟨0, by decide⟩, ⟨1, by decide⟩, ⟨2, by decide⟩, ⟨3, by decide⟩, ⟨4, by decide⟩, ⟨5, by decide⟩, ⟨6, by decide⟩, ⟨7, by decide⟩, ⟨8, by decide⟩, ⟨9, by decide⟩, ⟨10, by decide⟩, ⟨11, by decide⟩, ⟨12, by decide⟩, ⟨13, by decide⟩, ⟨14, by decide⟩, ⟨15, by decide⟩, ⟨16, by decide⟩, ⟨17, by decide⟩, ⟨18, by decide⟩, ⟨19, by decide⟩, ⟨20, by decide⟩, ⟨21, by decide⟩, ⟨22, by decide⟩, ⟨23, by decide⟩, ⟨24, by decide⟩, ⟨25, by decide⟩, ⟨26, by decide⟩, ⟨27, by decide⟩] : List Chunk) (by decide) (by decide)]; rfl

end Cert.KernelIdeal.Hand

end
-- ==== Proof.Ideal.Join.lean ====
/- Cutting the two weight buffers into their 28 chunks, and joining the chunks back. -/
module

public import proofs.«01_k».proof.Proof.Ideal.Setup
public import Idealize.ShloMosaic.Lib.Pipeline.ValueKit.Geometry

@[expose] public section

set_option maxRecDepth 65536
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (Pipeline.UD sig nD τ) ℕ

/-- The rows of chunk `k`. -/
def rowsOf (k : Chunk) : Finset S14336x2048.Idx := (chunkRect k).set

theorem mem_rowsOf (k : Chunk) (i : S14336x2048.Idx) : i ∈ rowsOf k ↔ (i 0).val / 512 = k.val := by
  have hk : k.val < 28 := trips_eq ▸ k.isLt
  have h1 : (i 1).val < 2048 := (i 1).isLt
  have e := k0_off2_eq k
  unfold rowsOf chunkRect
  rw [Rect.mem_set_unit, e]
  constructor
  · intro h
    have h0 := h 0
    have l : 512 * k.val ≤ (i 0).val := h0.1
    have r : (i 0).val < 512 * k.val + 512 := h0.2
    omega
  · intro h a
    match a with
    | 0 => exact ⟨by show 512 * k.val ≤ (i 0).val; omega, by show (i 0).val < 512 * k.val + 512; omega⟩
    | 1 => exact ⟨Nat.zero_le _, by show (i 1).val < 0 + 2048; omega⟩

theorem rows_disjoint (k k' : Chunk) (h : k ≠ k') : Disjoint (rowsOf k) (rowsOf k') :=
  Finset.disjoint_left.mpr fun i hi hi' => h (Fin.ext (((mem_rowsOf k i).mp hi).symm.trans ((mem_rowsOf k' i).mp hi')))

theorem rows_cover : Finset.univ.biUnion rowsOf = Finset.univ := by
  refine Finset.eq_univ_iff_forall.mpr fun i => Finset.mem_biUnion.mpr ?_
  have h0 : (i 0).val < 14336 := (i 0).isLt
  exact ⟨⟨(i 0).val / 512, by rw [trips_eq]; omega⟩, Finset.mem_univ _, (mem_rowsOf _ _).mpr rfl⟩

theorem wb_set (k : Chunk) : (wb k).view.set = rowsOf k := View.set_slice_whole _ _
theorem wh_set (k : Chunk) : (wh k).view.set = rowsOf k := View.set_slice_whole _ _

theorem wb_blocks (c : Dev nD) (f : BufOf (F := F) c wbM) : (wbM.view.loc (c : Thread nD τ) ↦{fullShare} f : sProp 𝕄)
    = bigSep Finset.univ fun k => (wb k).view.loc (c : Thread nD τ) ↦[(wb k).view.set]{fullShare} f := by
  rw [show (wbM.view.loc (c : Thread nD τ) ↦{fullShare} f : sProp 𝕄)
      = bigSep Finset.univ fun k => wbM.view.loc (c : Thread nD τ) ↦[rowsOf k]{fullShare} f from
    Ring.pointsTo_blocks (ℓ := wbM.view.loc (c : Thread nD τ)) rowsOf rows_disjoint rows_cover f]
  exact bigSep_congr fun k _ => by rw [wb_set k]

theorem wh_blocks (c : Dev nD) (f : BufOf (F := F) c whM) : (whM.view.loc (c : Thread nD τ) ↦{fullShare} f : sProp 𝕄)
    = bigSep Finset.univ fun k => (wh k).view.loc (c : Thread nD τ) ↦[(wh k).view.set]{fullShare} f := by
  rw [show (whM.view.loc (c : Thread nD τ) ↦{fullShare} f : sProp 𝕄)
      = bigSep Finset.univ fun k => whM.view.loc (c : Thread nD τ) ↦[rowsOf k]{fullShare} f from
    Ring.pointsTo_blocks (ℓ := whM.view.loc (c : Thread nD τ)) rowsOf rows_disjoint rows_cover f]
  exact bigSep_congr fun k _ => by rw [wh_set k]

/-- The two weight buffers and the chunks' cells at zero, together. -/
theorem done_all (c : Dev nD) (fh : BufOf (F := F) c whM) (fw : BufOf (F := F) c wbM) :
    bigSep Finset.univ (done c fh fw)
      = iprop((wbM.view.loc (c : Thread nD τ) ↦{fullShare} fw) ∗ (whM.view.loc (c : Thread nD τ) ↦{fullShare} fh)
        ∗ bigSep Finset.univ fun k : Chunk => (semVal ((c : Thread nD τ), SemLoc.dma (cellSems k).sem) 0 : sProp 𝕄)) := by
  rw [wb_blocks, wh_blocks]
  unfold done
  exact (bigSep_sep _ _ _).trans (congrArg _ (bigSep_sep _ _ _))

/-- A chunk at rest, its offset and cell written as the kernel writes them. -/
theorem done_at (c : Dev nD) (fh : BufOf (F := F) c whM) (fw : BufOf (F := F) c wbM) (k : Chunk) (o : Fin 2 → ℕ) (h)
    (ho : k0_off2 k = o) (sm : DmaSem sig) (hsm : (cellSems k).sem = sm) :
    done c fh fw k = (iprop(((wbO o h).view.loc (c : Thread nD τ) ↦[(wbO o h).view.set]{fullShare} fw)
      ∗ ((whO o h).view.loc (c : Thread nD τ) ↦[(whO o h).view.set]{fullShare} fh)
      ∗ semVal ((c : Thread nD τ), SemLoc.dma sm) 0) : sProp 𝕄) := by
  subst ho hsm; rfl

end Cert.KernelIdeal.Hand

end
-- ==== Proof.Ideal.Trip.lean ====
/- One trip of the chunk loop: the chunk's copy is waited for, its scales are turned into floats, its 16 tiles are multiplied and added up, and the 8 by 512 block of results is stored. -/
module

public import proofs.«01_k».proof.Proof.Ideal.Setup

@[expose] public section

set_option maxRecDepth 65536
set_option maxHeartbeats 0

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (Pipeline.UD sig nD τ) ℕ

/-- The trip's run: whatever the scratch for the scales and the result held, the trip leaves the result's columns of
    chunk `k` at a value that depends only on the chunk's codes, the scale codes and the masked activations. -/
def tripRun (c : Dev nD) (k : Chunk) (fw : BufOf (F := F) c wbM) (fs : BufOf (F := F) c sbM) (fx : BufOf (F := F) c xmM) :
    {v : FVec F S8x512 .bf16 // ∀ (arg3 : Memref sig .tc .vmem S8x14336 .bf16) (harg3 : arg3.IsWhole)
      (arg0 : Memref sig .tc .vmem S8x4096 .bf16) (harg0 : arg0.IsWhole)
      (fh : BufOf (F := F) c whM) (fc : BufOf (F := F) c scM) (fo : BufOf (F := F) c arg3) (W : Finset (SemLoc sig × Unit)),
      iprop(flying c fh fw k ∗ (sbM.view.loc (c : Thread nD τ) ↦{fullShare} fs) ∗ (xmM.view.loc (c : Thread nD τ) ↦{fullShare} fx)
        ∗ (scM.view.loc (c : Thread nD τ) ↦{fullShare} fc) ∗ (arg3.view.loc (c : Thread nD τ) ↦[arg3.view.set]{fullShare} fo)
        ∗ owes (c : Thread nD τ) 0 W)
      ⊢ wp frame (wpE (defs₀ (F := F)) Variants.none (c : Thread nD τ) none) Set.univ
        (k0_t1_body (F := F) arg0 harg0 shM (Memref.isWhole_whole _) whM (Memref.isWhole_whole _) arg3 harg3 wbM (Memref.isWhole_whole _)
          sbM (Memref.isWhole_whole _) xmM (Memref.isWhole_whole _) scM (Memref.isWhole_whole _) cc0_scratch4 cc0_scratch5 k ())
        (fun _ => iprop(done c fh fw k ∗ (sbM.view.loc (c : Thread nD τ) ↦{fullShare} fs) ∗ (xmM.view.loc (c : Thread nD τ) ↦{fullShare} fx)
          ∗ (∃ fc, scM.view.loc (c : Thread nD τ) ↦{fullShare} fc)
          ∗ (arg3.view.loc (c : Thread nD τ) ↦[arg3.view.set]{fullShare} arg3.view.writes (Elt F) fo
              [⟨Rect.unit (s := S8x14336) (k0_off20 k) S8x512.size (k0_off20_inb k), v⟩])
          ∗ ∃ W, owes (c : Thread nD τ) 0 W))} := by
  refine ⟨?_, ?run⟩
  case run =>
    intro arg3 harg3 arg0 harg0 fh fc fo W
    have l4 := load_in k (k0_off4 k) (k0_off4_inb k) 0 (k0_off4_eq k) (by decide)
    have l5 := load_in k (k0_off5 k) (k0_off5_inb k) 128 (k0_off5_eq k) (by decide)
    have l6 := load_in k (k0_off6 k) (k0_off6_inb k) 256 (k0_off6_eq k) (by decide)
    have l7 := load_in k (k0_off7 k) (k0_off7_inb k) 384 (k0_off7_eq k) (by decide)
    have l8 := load_in k (k0_off8 k) (k0_off8_inb k) 512 (k0_off8_eq k) (by decide)
    have l9 := load_in k (k0_off9 k) (k0_off9_inb k) 640 (k0_off9_eq k) (by decide)
    have l10 := load_in k (k0_off10 k) (k0_off10_inb k) 768 (k0_off10_eq k) (by decide)
    have l11 := load_in k (k0_off11 k) (k0_off11_inb k) 896 (k0_off11_eq k) (by decide)
    have l12 := load_in k (k0_off12 k) (k0_off12_inb k) 1024 (k0_off12_eq k) (by decide)
    have l13 := load_in k (k0_off13 k) (k0_off13_inb k) 1152 (k0_off13_eq k) (by decide)
    have l14 := load_in k (k0_off14 k) (k0_off14_inb k) 1280 (k0_off14_eq k) (by decide)
    have l15 := load_in k (k0_off15 k) (k0_off15_inb k) 1408 (k0_off15_eq k) (by decide)
    have l16 := load_in k (k0_off16 k) (k0_off16_inb k) 1536 (k0_off16_eq k) (by decide)
    have l17 := load_in k (k0_off17 k) (k0_off17_inb k) 1664 (k0_off17_eq k) (by decide)
    have l18 := load_in k (k0_off18 k) (k0_off18_inb k) 1792 (k0_off18_eq k) (by decide)
    have l19 := load_in k (k0_off19 k) (k0_off19_inb k) 1920 (k0_off19_eq k) (by decide)
    unfold Gen.k0_t1_body flying done
    iintro ⟨Hf, Hs, Hx, Hc, Ho, HO⟩
    sl_exec_parts
    sl_step
    isplitl [Hf_dst Hf_src Hf]
    · isplitl [Hf_dst]; · iexact Hf_dst
      isplitl [Hf_src]; · iexact Hf_src
      iexact Hf
    isplitl [Hs]; · iexact Hs
    isplitl [Hx]; · iexact Hx
    isplitl [Hc]; · iexists _; iexact Hc
    isplitl [Ho]; · iexact Ho
    iexists _; iexact HO

end Cert.KernelIdeal.Hand

end
-- ==== Proof.Ideal.Prologue.lean ====
/- The body up to its loop: the 28 chunk copies and the scale copy are issued, the masked activations are built tile by tile, and the scale copy is waited for. -/
module

public import proofs.«01_k».proof.Proof.Ideal.Setup

@[expose] public section

set_option maxRecDepth 65536
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (Pipeline.UD sig nD τ) ℕ

/-- What the loop leaves to be run, once the prologue is done. -/
abbrev loopProg (arg0 : Memref sig .tc .vmem S8x4096 .bf16) (harg0 : arg0.IsWhole) (arg3 : Memref sig .tc .vmem S8x14336 .bf16) (harg3 : arg3.IsWhole) :
    Prog (TpuEff nD τ sig (Elt F) Λ₀ .tc) PUnit := do
  k0_t1_loop.for k0_t1_ok PUnit.unit
    (k0_t1_body (F := F) arg0 harg0 shM (Memref.isWhole_whole _) whM (Memref.isWhole_whole _) arg3 harg3 wbM (Memref.isWhole_whole _)
          sbM (Memref.isWhole_whole _) xmM (Memref.isWhole_whole _) scM (Memref.isWhole_whole _) cc0_scratch4 cc0_scratch5)
  pure PUnit.unit

/-- The prologue's run: the scratch of masked activations ends at contents that depend only on the activations. -/
def prologueRun (c : Dev nD) (arg0 : Memref sig .tc .vmem S8x4096 .bf16) (harg0 : arg0.IsWhole) (f0 : BufOf (F := F) c arg0) :
    {gx : BufOf (F := F) c xmM // ∀ (arg3 : Memref sig .tc .vmem S8x14336 .bf16) (harg3 : arg3.IsWhole)
      (fh : BufOf (F := F) c whM) (fw : BufOf (F := F) c wbM) (fsh : BufOf (F := F) c shM) (fs : BufOf (F := F) c sbM) (fx : BufOf (F := F) c xmM)
      (W : Finset (SemLoc sig × Unit)) (K : PUnit → sProp 𝕄),
      iprop((shM.view.loc (c : Thread nD τ) ↦{fullShare} fsh)
      ∗ ((wbO ![0, 0] inb_S14336x2048_S512x2048_0_0).view.loc (c : Thread nD τ) ↦[(wbO ![0, 0] inb_S14336x2048_S512x2048_0_0).view.set]{fullShare} fw)
        ∗ ((whO ![0, 0] inb_S14336x2048_S512x2048_0_0).view.loc (c : Thread nD τ) ↦[(whO ![0, 0] inb_S14336x2048_S512x2048_0_0).view.set]{fullShare} fh)
        ∗ (semVal ((c : Thread nD τ), SemLoc.dma 2) 0 : sProp 𝕄)
      ∗ ((wbO ![512, 0] inb_S14336x2048_S512x2048_512_0).view.loc (c : Thread nD τ) ↦[(wbO ![512, 0] inb_S14336x2048_S512x2048_512_0).view.set]{fullShare} fw)
        ∗ ((whO ![512, 0] inb_S14336x2048_S512x2048_512_0).view.loc (c : Thread nD τ) ↦[(whO ![512, 0] inb_S14336x2048_S512x2048_512_0).view.set]{fullShare} fh)
        ∗ (semVal ((c : Thread nD τ), SemLoc.dma 3) 0 : sProp 𝕄)
      ∗ ((wbO ![1024, 0] inb_S14336x2048_S512x2048_1024_0).view.loc (c : Thread nD τ) ↦[(wbO ![1024, 0] inb_S14336x2048_S512x2048_1024_0).view.set]{fullShare} fw)
        ∗ ((whO ![1024, 0] inb_S14336x2048_S512x2048_1024_0).view.loc (c : Thread nD τ) ↦[(whO ![1024, 0] inb_S14336x2048_S512x2048_1024_0).view.set]{fullShare} fh)
        ∗ (semVal ((c : Thread nD τ), SemLoc.dma 4) 0 : sProp 𝕄)
      ∗ ((wbO ![1536, 0] inb_S14336x2048_S512x2048_1536_0).view.loc (c : Thread nD τ) ↦[(wbO ![1536, 0] inb_S14336x2048_S512x2048_1536_0).view.set]{fullShare} fw)
        ∗ ((whO ![1536, 0] inb_S14336x2048_S512x2048_1536_0).view.loc (c : Thread nD τ) ↦[(whO ![1536, 0] inb_S14336x2048_S512x2048_1536_0).view.set]{fullShare} fh)
        ∗ (semVal ((c : Thread nD τ), SemLoc.dma 5) 0 : sProp 𝕄)
      ∗ ((wbO ![2048, 0] inb_S14336x2048_S512x2048_2048_0).view.loc (c : Thread nD τ) ↦[(wbO ![2048, 0] inb_S14336x2048_S512x2048_2048_0).view.set]{fullShare} fw)
        ∗ ((whO ![2048, 0] inb_S14336x2048_S512x2048_2048_0).view.loc (c : Thread nD τ) ↦[(whO ![2048, 0] inb_S14336x2048_S512x2048_2048_0).view.set]{fullShare} fh)
        ∗ (semVal ((c : Thread nD τ), SemLoc.dma 6) 0 : sProp 𝕄)
      ∗ ((wbO ![2560, 0] inb_S14336x2048_S512x2048_2560_0).view.loc (c : Thread nD τ) ↦[(wbO ![2560, 0] inb_S14336x2048_S512x2048_2560_0).view.set]{fullShare} fw)
        ∗ ((whO ![2560, 0] inb_S14336x2048_S512x2048_2560_0).view.loc (c : Thread nD τ) ↦[(whO ![2560, 0] inb_S14336x2048_S512x2048_2560_0).view.set]{fullShare} fh)
        ∗ (semVal ((c : Thread nD τ), SemLoc.dma 7) 0 : sProp 𝕄)
      ∗ ((wbO ![3072, 0] inb_S14336x2048_S512x2048_3072_0).view.loc (c : Thread nD τ) ↦[(wbO ![3072, 0] inb_S14336x2048_S512x2048_3072_0).view.set]{fullShare} fw)
        ∗ ((whO ![3072, 0] inb_S14336x2048_S512x2048_3072_0).view.loc (c : Thread nD τ) ↦[(whO ![3072, 0] inb_S14336x2048_S512x2048_3072_0).view.set]{fullShare} fh)
        ∗ (semVal ((c : Thread nD τ), SemLoc.dma 8) 0 : sProp 𝕄)
      ∗ ((wbO ![3584, 0] inb_S14336x2048_S512x2048_3584_0).view.loc (c : Thread nD τ) ↦[(wbO ![3584, 0] inb_S14336x2048_S512x2048_3584_0).view.set]{fullShare} fw)
        ∗ ((whO ![3584, 0] inb_S14336x2048_S512x2048_3584_0).view.loc (c : Thread nD τ) ↦[(whO ![3584, 0] inb_S14336x2048_S512x2048_3584_0).view.set]{fullShare} fh)
        ∗ (semVal ((c : Thread nD τ), SemLoc.dma 9) 0 : sProp 𝕄)
      ∗ ((wbO ![4096, 0] inb_S14336x2048_S512x2048_4096_0).view.loc (c : Thread nD τ) ↦[(wbO ![4096, 0] inb_S14336x2048_S512x2048_4096_0).view.set]{fullShare} fw)
        ∗ ((whO ![4096, 0] inb_S14336x2048_S512x2048_4096_0).view.loc (c : Thread nD τ) ↦[(whO ![4096, 0] inb_S14336x2048_S512x2048_4096_0).view.set]{fullShare} fh)
        ∗ (semVal ((c : Thread nD τ), SemLoc.dma 10) 0 : sProp 𝕄)
      ∗ ((wbO ![4608, 0] inb_S14336x2048_S512x2048_4608_0).view.loc (c : Thread nD τ) ↦[(wbO ![4608, 0] inb_S14336x2048_S512x2048_4608_0).view.set]{fullShare} fw)
        ∗ ((whO ![4608, 0] inb_S14336x2048_S512x2048_4608_0).view.loc (c : Thread nD τ) ↦[(whO ![4608, 0] inb_S14336x2048_S512x2048_4608_0).view.set]{fullShare} fh)
        ∗ (semVal ((c : Thread nD τ), SemLoc.dma 11) 0 : sProp 𝕄)
      ∗ ((wbO ![5120, 0] inb_S14336x2048_S512x2048_5120_0).view.loc (c : Thread nD τ) ↦[(wbO ![5120, 0] inb_S14336x2048_S512x2048_5120_0).view.set]{fullShare} fw)
        ∗ ((whO ![5120, 0] inb_S14336x2048_S512x2048_5120_0).view.loc (c : Thread nD τ) ↦[(whO ![5120, 0] inb_S14336x2048_S512x2048_5120_0).view.set]{fullShare} fh)
        ∗ (semVal ((c : Thread nD τ), SemLoc.dma 12) 0 : sProp 𝕄)
      ∗ ((wbO ![5632, 0] inb_S14336x2048_S512x2048_5632_0).view.loc (c : Thread nD τ) ↦[(wbO ![5632, 0] inb_S14336x2048_S512x2048_5632_0).view.set]{fullShare} fw)
        ∗ ((whO ![5632, 0] inb_S14336x2048_S512x2048_5632_0).view.loc (c : Thread nD τ) ↦[(whO ![5632, 0] inb_S14336x2048_S512x2048_5632_0).view.set]{fullShare} fh)
        ∗ (semVal ((c : Thread nD τ), SemLoc.dma 13) 0 : sProp 𝕄)
      ∗ ((wbO ![6144, 0] inb_S14336x2048_S512x2048_6144_0).view.loc (c : Thread nD τ) ↦[(wbO ![6144, 0] inb_S14336x2048_S512x2048_6144_0).view.set]{fullShare} fw)
        ∗ ((whO ![6144, 0] inb_S14336x2048_S512x2048_6144_0).view.loc (c : Thread nD τ) ↦[(whO ![6144, 0] inb_S14336x2048_S512x2048_6144_0).view.set]{fullShare} fh)
        ∗ (semVal ((c : Thread nD τ), SemLoc.dma 14) 0 : sProp 𝕄)
      ∗ ((wbO ![6656, 0] inb_S14336x2048_S512x2048_6656_0).view.loc (c : Thread nD τ) ↦[(wbO ![6656, 0] inb_S14336x2048_S512x2048_6656_0).view.set]{fullShare} fw)
        ∗ ((whO ![6656, 0] inb_S14336x2048_S512x2048_6656_0).view.loc (c : Thread nD τ) ↦[(whO ![6656, 0] inb_S14336x2048_S512x2048_6656_0).view.set]{fullShare} fh)
        ∗ (semVal ((c : Thread nD τ), SemLoc.dma 15) 0 : sProp 𝕄)
      ∗ ((wbO ![7168, 0] inb_S14336x2048_S512x2048_7168_0).view.loc (c : Thread nD τ) ↦[(wbO ![7168, 0] inb_S14336x2048_S512x2048_7168_0).view.set]{fullShare} fw)
        ∗ ((whO ![7168, 0] inb_S14336x2048_S512x2048_7168_0).view.loc (c : Thread nD τ) ↦[(whO ![7168, 0] inb_S14336x2048_S512x2048_7168_0).view.set]{fullShare} fh)
        ∗ (semVal ((c : Thread nD τ), SemLoc.dma 16) 0 : sProp 𝕄)
      ∗ ((wbO ![7680, 0] inb_S14336x2048_S512x2048_7680_0).view.loc (c : Thread nD τ) ↦[(wbO ![7680, 0] inb_S14336x2048_S512x2048_7680_0).view.set]{fullShare} fw)
        ∗ ((whO ![7680, 0] inb_S14336x2048_S512x2048_7680_0).view.loc (c : Thread nD τ) ↦[(whO ![7680, 0] inb_S14336x2048_S512x2048_7680_0).view.set]{fullShare} fh)
        ∗ (semVal ((c : Thread nD τ), SemLoc.dma 17) 0 : sProp 𝕄)
      ∗ ((wbO ![8192, 0] inb_S14336x2048_S512x2048_8192_0).view.loc (c : Thread nD τ) ↦[(wbO ![8192, 0] inb_S14336x2048_S512x2048_8192_0).view.set]{fullShare} fw)
        ∗ ((whO ![8192, 0] inb_S14336x2048_S512x2048_8192_0).view.loc (c : Thread nD τ) ↦[(whO ![8192, 0] inb_S14336x2048_S512x2048_8192_0).view.set]{fullShare} fh)
        ∗ (semVal ((c : Thread nD τ), SemLoc.dma 18) 0 : sProp 𝕄)
      ∗ ((wbO ![8704, 0] inb_S14336x2048_S512x2048_8704_0).view.loc (c : Thread nD τ) ↦[(wbO ![8704, 0] inb_S14336x2048_S512x2048_8704_0).view.set]{fullShare} fw)
        ∗ ((whO ![8704, 0] inb_S14336x2048_S512x2048_8704_0).view.loc (c : Thread nD τ) ↦[(whO ![8704, 0] inb_S14336x2048_S512x2048_8704_0).view.set]{fullShare} fh)
        ∗ (semVal ((c : Thread nD τ), SemLoc.dma 19) 0 : sProp 𝕄)
      ∗ ((wbO ![9216, 0] inb_S14336x2048_S512x2048_9216_0).view.loc (c : Thread nD τ) ↦[(wbO ![9216, 0] inb_S14336x2048_S512x2048_9216_0).view.set]{fullShare} fw)
        ∗ ((whO ![9216, 0] inb_S14336x2048_S512x2048_9216_0).view.loc (c : Thread nD τ) ↦[(whO ![9216, 0] inb_S14336x2048_S512x2048_9216_0).view.set]{fullShare} fh)
        ∗ (semVal ((c : Thread nD τ), SemLoc.dma 20) 0 : sProp 𝕄)
      ∗ ((wbO ![9728, 0] inb_S14336x2048_S512x2048_9728_0).view.loc (c : Thread nD τ) ↦[(wbO ![9728, 0] inb_S14336x2048_S512x2048_9728_0).view.set]{fullShare} fw)
        ∗ ((whO ![9728, 0] inb_S14336x2048_S512x2048_9728_0).view.loc (c : Thread nD τ) ↦[(whO ![9728, 0] inb_S14336x2048_S512x2048_9728_0).view.set]{fullShare} fh)
        ∗ (semVal ((c : Thread nD τ), SemLoc.dma 21) 0 : sProp 𝕄)
      ∗ ((wbO ![10240, 0] inb_S14336x2048_S512x2048_10240_0).view.loc (c : Thread nD τ) ↦[(wbO ![10240, 0] inb_S14336x2048_S512x2048_10240_0).view.set]{fullShare} fw)
        ∗ ((whO ![10240, 0] inb_S14336x2048_S512x2048_10240_0).view.loc (c : Thread nD τ) ↦[(whO ![10240, 0] inb_S14336x2048_S512x2048_10240_0).view.set]{fullShare} fh)
        ∗ (semVal ((c : Thread nD τ), SemLoc.dma 22) 0 : sProp 𝕄)
      ∗ ((wbO ![10752, 0] inb_S14336x2048_S512x2048_10752_0).view.loc (c : Thread nD τ) ↦[(wbO ![10752, 0] inb_S14336x2048_S512x2048_10752_0).view.set]{fullShare} fw)
        ∗ ((whO ![10752, 0] inb_S14336x2048_S512x2048_10752_0).view.loc (c : Thread nD τ) ↦[(whO ![10752, 0] inb_S14336x2048_S512x2048_10752_0).view.set]{fullShare} fh)
        ∗ (semVal ((c : Thread nD τ), SemLoc.dma 23) 0 : sProp 𝕄)
      ∗ ((wbO ![11264, 0] inb_S14336x2048_S512x2048_11264_0).view.loc (c : Thread nD τ) ↦[(wbO ![11264, 0] inb_S14336x2048_S512x2048_11264_0).view.set]{fullShare} fw)
        ∗ ((whO ![11264, 0] inb_S14336x2048_S512x2048_11264_0).view.loc (c : Thread nD τ) ↦[(whO ![11264, 0] inb_S14336x2048_S512x2048_11264_0).view.set]{fullShare} fh)
        ∗ (semVal ((c : Thread nD τ), SemLoc.dma 24) 0 : sProp 𝕄)
      ∗ ((wbO ![11776, 0] inb_S14336x2048_S512x2048_11776_0).view.loc (c : Thread nD τ) ↦[(wbO ![11776, 0] inb_S14336x2048_S512x2048_11776_0).view.set]{fullShare} fw)
        ∗ ((whO ![11776, 0] inb_S14336x2048_S512x2048_11776_0).view.loc (c : Thread nD τ) ↦[(whO ![11776, 0] inb_S14336x2048_S512x2048_11776_0).view.set]{fullShare} fh)
        ∗ (semVal ((c : Thread nD τ), SemLoc.dma 25) 0 : sProp 𝕄)
      ∗ ((wbO ![12288, 0] inb_S14336x2048_S512x2048_12288_0).view.loc (c : Thread nD τ) ↦[(wbO ![12288, 0] inb_S14336x2048_S512x2048_12288_0).view.set]{fullShare} fw)
        ∗ ((whO ![12288, 0] inb_S14336x2048_S512x2048_12288_0).view.loc (c : Thread nD τ) ↦[(whO ![12288, 0] inb_S14336x2048_S512x2048_12288_0).view.set]{fullShare} fh)
        ∗ (semVal ((c : Thread nD τ), SemLoc.dma 26) 0 : sProp 𝕄)
      ∗ ((wbO ![12800, 0] inb_S14336x2048_S512x2048_12800_0).view.loc (c : Thread nD τ) ↦[(wbO ![12800, 0] inb_S14336x2048_S512x2048_12800_0).view.set]{fullShare} fw)
        ∗ ((whO ![12800, 0] inb_S14336x2048_S512x2048_12800_0).view.loc (c : Thread nD τ) ↦[(whO ![12800, 0] inb_S14336x2048_S512x2048_12800_0).view.set]{fullShare} fh)
        ∗ (semVal ((c : Thread nD τ), SemLoc.dma 27) 0 : sProp 𝕄)
      ∗ ((wbO ![13312, 0] inb_S14336x2048_S512x2048_13312_0).view.loc (c : Thread nD τ) ↦[(wbO ![13312, 0] inb_S14336x2048_S512x2048_13312_0).view.set]{fullShare} fw)
        ∗ ((whO ![13312, 0] inb_S14336x2048_S512x2048_13312_0).view.loc (c : Thread nD τ) ↦[(whO ![13312, 0] inb_S14336x2048_S512x2048_13312_0).view.set]{fullShare} fh)
        ∗ (semVal ((c : Thread nD τ), SemLoc.dma 28) 0 : sProp 𝕄)
      ∗ ((wbO ![13824, 0] inb_S14336x2048_S512x2048_13824_0).view.loc (c : Thread nD τ) ↦[(wbO ![13824, 0] inb_S14336x2048_S512x2048_13824_0).view.set]{fullShare} fw)
        ∗ ((whO ![13824, 0] inb_S14336x2048_S512x2048_13824_0).view.loc (c : Thread nD τ) ↦[(whO ![13824, 0] inb_S14336x2048_S512x2048_13824_0).view.set]{fullShare} fh)
        ∗ (semVal ((c : Thread nD τ), SemLoc.dma 29) 0 : sProp 𝕄)
      ∗ (semVal ((c : Thread nD τ), SemLoc.dma 30) 0 : sProp 𝕄)
      ∗ (sbM.view.loc (c : Thread nD τ) ↦{fullShare} fs) ∗ (xmM.view.loc (c : Thread nD τ) ↦{fullShare} fx)
      ∗ (arg0.view.loc (c : Thread nD τ) ↦[arg0.view.set]{fullShare} f0) ∗ owes (c : Thread nD τ) 0 W
      ∗ (iprop(bigSep Finset.univ (flying c fh (asW c fh))
          ∗ (shM.view.loc (c : Thread nD τ) ↦{fullShare} fsh) ∗ (semVal ((c : Thread nD τ), SemLoc.dma 30) 0 : sProp 𝕄)
          ∗ (sbM.view.loc (c : Thread nD τ) ↦{fullShare} asS c fsh) ∗ (xmM.view.loc (c : Thread nD τ) ↦{fullShare} gx)
          ∗ (arg0.view.loc (c : Thread nD τ) ↦[arg0.view.set]{fullShare} f0) ∗ ∃ W, owes (c : Thread nD τ) 0 W)
        -∗ wp frame (wpE (defs₀ (F := F)) Variants.none (c : Thread nD τ) none) Set.univ (loopProg arg0 harg0 arg3 harg3) K))
      ⊢ wp frame (wpE (defs₀ (F := F)) Variants.none (c : Thread nD τ) none) Set.univ
        (cc0__body (F := F) arg0 harg0 shM (Memref.isWhole_whole _) whM (Memref.isWhole_whole _) arg3 harg3 wbM (Memref.isWhole_whole _)
          sbM (Memref.isWhole_whole _) xmM (Memref.isWhole_whole _) scM (Memref.isWhole_whole _) cc0_scratch4 cc0_scratch5) K} := by
  refine ⟨?_, ?run⟩
  case run =>
    intro arg3 harg3 fh fw fsh fs fx W K
    rw [cc0__body_eq_skeleton, bigSep_chunks]
    unfold cc0__body_skel
    iintro ⟨Hsh, Hb0, Hh0, Hv0, Hb1, Hh1, Hv1, Hb2, Hh2, Hv2, Hb3, Hh3, Hv3, Hb4, Hh4, Hv4, Hb5, Hh5, Hv5, Hb6, Hh6, Hv6, Hb7, Hh7, Hv7, Hb8, Hh8, Hv8, Hb9, Hh9, Hv9, Hb10, Hh10, Hv10, Hb11, Hh11, Hv11, Hb12, Hh12, Hv12, Hb13, Hh13, Hv13, Hb14, Hh14, Hv14, Hb15, Hh15, Hv15, Hb16, Hh16, Hv16, Hb17, Hh17, Hv17, Hb18, Hh18, Hv18, Hb19, Hh19, Hv19, Hb20, Hh20, Hv20, Hb21, Hh21, Hv21, Hb22, Hh22, Hv22, Hb23, Hh23, Hv23, Hb24, Hh24, Hv24, Hb25, Hh25, Hv25, Hb26, Hh26, Hv26, Hb27, Hh27, Hv27, Hv28, Hs, Hx, H0, HO, Hk⟩
    sl_exec_parts!
    iapply Hk
    isplitl [Hv0 Hv1 Hv2 Hv3 Hv4 Hv5 Hv6 Hv7 Hv8 Hv9 Hv10 Hv11 Hv12 Hv13 Hv14 Hv15 Hv16 Hv17 Hv18 Hv19 Hv20 Hv21 Hv22 Hv23 Hv24 Hv25 Hv26 Hv27]
    · isplitl [Hv0]
      · iapply (land c ⟨0, by decide⟩ ![0, 0] inb_S14336x2048_S512x2048_0_0 (k0_off2_eq _) 2 (by decide) fh fw _ rfl)
        iexact Hv0
      isplitl [Hv1]
      · iapply (land c ⟨1, by decide⟩ ![512, 0] inb_S14336x2048_S512x2048_512_0 (k0_off2_eq _) 3 (by decide) fh fw _ rfl)
        iexact Hv1
      isplitl [Hv2]
      · iapply (land c ⟨2, by decide⟩ ![1024, 0] inb_S14336x2048_S512x2048_1024_0 (k0_off2_eq _) 4 (by decide) fh fw _ rfl)
        iexact Hv2
      isplitl [Hv3]
      · iapply (land c ⟨3, by decide⟩ ![1536, 0] inb_S14336x2048_S512x2048_1536_0 (k0_off2_eq _) 5 (by decide) fh fw _ rfl)
        iexact Hv3
      isplitl [Hv4]
      · iapply (land c ⟨4, by decide⟩ ![2048, 0] inb_S14336x2048_S512x2048_2048_0 (k0_off2_eq _) 6 (by decide) fh fw _ rfl)
        iexact Hv4
      isplitl [Hv5]
      · iapply (land c ⟨5, by decide⟩ ![2560, 0] inb_S14336x2048_S512x2048_2560_0 (k0_off2_eq _) 7 (by decide) fh fw _ rfl)
        iexact Hv5
      isplitl [Hv6]
      · iapply (land c ⟨6, by decide⟩ ![3072, 0] inb_S14336x2048_S512x2048_3072_0 (k0_off2_eq _) 8 (by decide) fh fw _ rfl)
        iexact Hv6
      isplitl [Hv7]
      · iapply (land c ⟨7, by decide⟩ ![3584, 0] inb_S14336x2048_S512x2048_3584_0 (k0_off2_eq _) 9 (by decide) fh fw _ rfl)
        iexact Hv7
      isplitl [Hv8]
      · iapply (land c ⟨8, by decide⟩ ![4096, 0] inb_S14336x2048_S512x2048_4096_0 (k0_off2_eq _) 10 (by decide) fh fw _ rfl)
        iexact Hv8
      isplitl [Hv9]
      · iapply (land c ⟨9, by decide⟩ ![4608, 0] inb_S14336x2048_S512x2048_4608_0 (k0_off2_eq _) 11 (by decide) fh fw _ rfl)
        iexact Hv9
      isplitl [Hv10]
      · iapply (land c ⟨10, by decide⟩ ![5120, 0] inb_S14336x2048_S512x2048_5120_0 (k0_off2_eq _) 12 (by decide) fh fw _ rfl)
        iexact Hv10
      isplitl [Hv11]
      · iapply (land c ⟨11, by decide⟩ ![5632, 0] inb_S14336x2048_S512x2048_5632_0 (k0_off2_eq _) 13 (by decide) fh fw _ rfl)
        iexact Hv11
      isplitl [Hv12]
      · iapply (land c ⟨12, by decide⟩ ![6144, 0] inb_S14336x2048_S512x2048_6144_0 (k0_off2_eq _) 14 (by decide) fh fw _ rfl)
        iexact Hv12
      isplitl [Hv13]
      · iapply (land c ⟨13, by decide⟩ ![6656, 0] inb_S14336x2048_S512x2048_6656_0 (k0_off2_eq _) 15 (by decide) fh fw _ rfl)
        iexact Hv13
      isplitl [Hv14]
      · iapply (land c ⟨14, by decide⟩ ![7168, 0] inb_S14336x2048_S512x2048_7168_0 (k0_off2_eq _) 16 (by decide) fh fw _ rfl)
        iexact Hv14
      isplitl [Hv15]
      · iapply (land c ⟨15, by decide⟩ ![7680, 0] inb_S14336x2048_S512x2048_7680_0 (k0_off2_eq _) 17 (by decide) fh fw _ rfl)
        iexact Hv15
      isplitl [Hv16]
      · iapply (land c ⟨16, by decide⟩ ![8192, 0] inb_S14336x2048_S512x2048_8192_0 (k0_off2_eq _) 18 (by decide) fh fw _ rfl)
        iexact Hv16
      isplitl [Hv17]
      · iapply (land c ⟨17, by decide⟩ ![8704, 0] inb_S14336x2048_S512x2048_8704_0 (k0_off2_eq _) 19 (by decide) fh fw _ rfl)
        iexact Hv17
      isplitl [Hv18]
      · iapply (land c ⟨18, by decide⟩ ![9216, 0] inb_S14336x2048_S512x2048_9216_0 (k0_off2_eq _) 20 (by decide) fh fw _ rfl)
        iexact Hv18
      isplitl [Hv19]
      · iapply (land c ⟨19, by decide⟩ ![9728, 0] inb_S14336x2048_S512x2048_9728_0 (k0_off2_eq _) 21 (by decide) fh fw _ rfl)
        iexact Hv19
      isplitl [Hv20]
      · iapply (land c ⟨20, by decide⟩ ![10240, 0] inb_S14336x2048_S512x2048_10240_0 (k0_off2_eq _) 22 (by decide) fh fw _ rfl)
        iexact Hv20
      isplitl [Hv21]
      · iapply (land c ⟨21, by decide⟩ ![10752, 0] inb_S14336x2048_S512x2048_10752_0 (k0_off2_eq _) 23 (by decide) fh fw _ rfl)
        iexact Hv21
      isplitl [Hv22]
      · iapply (land c ⟨22, by decide⟩ ![11264, 0] inb_S14336x2048_S512x2048_11264_0 (k0_off2_eq _) 24 (by decide) fh fw _ rfl)
        iexact Hv22
      isplitl [Hv23]
      · iapply (land c ⟨23, by decide⟩ ![11776, 0] inb_S14336x2048_S512x2048_11776_0 (k0_off2_eq _) 25 (by decide) fh fw _ rfl)
        iexact Hv23
      isplitl [Hv24]
      · iapply (land c ⟨24, by decide⟩ ![12288, 0] inb_S14336x2048_S512x2048_12288_0 (k0_off2_eq _) 26 (by decide) fh fw _ rfl)
        iexact Hv24
      isplitl [Hv25]
      · iapply (land c ⟨25, by decide⟩ ![12800, 0] inb_S14336x2048_S512x2048_12800_0 (k0_off2_eq _) 27 (by decide) fh fw _ rfl)
        iexact Hv25
      isplitl [Hv26]
      · iapply (land c ⟨26, by decide⟩ ![13312, 0] inb_S14336x2048_S512x2048_13312_0 (k0_off2_eq _) 28 (by decide) fh fw _ rfl)
        iexact Hv26
      iapply (land c ⟨27, by decide⟩ ![13824, 0] inb_S14336x2048_S512x2048_13824_0 (k0_off2_eq _) 29 (by decide) fh fw _ rfl)
      iexact Hv27
    isplitl [Hsh]; · iexact Hsh
    isplitl [Hv28]; · iexact Hv28
    isplitl [Hs]
    · iapply (Entails.of_eq (pointsTo_congr (f := View.write (Elt F) sbM.view fs (shM.view.read (Elt F) fsh) Finset.univ) fun i _ => eq_on_of_read_eq sbM.view _ (asS c fsh) (View.read_write_univ _ _) i ((Memref.IsWhole.set_eq_univ (Memref.isWhole_whole cc0_scratch1)).symm ▸ Finset.mem_univ i)))
      iexact Hs
    isplitl [Hx]; · iexact Hx
    isplitl [H0]; · iexact H0
    iexists _; iexact HO

end Cert.KernelIdeal.Hand

end
-- ==== Proof.Ideal.Loop.lean ====
/- The chunk loop: after `k` trips the first `k` chunks have landed and their columns of the result are final. -/
module

public import proofs.«01_k».proof.Proof.Ideal.Trip
public import proofs.«01_k».proof.Proof.Ideal.Prologue
public import Idealize.ShloMosaic.Lib.WritesUnit

@[expose] public section

set_option maxRecDepth 65536
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (Pipeline.UD sig nD τ) ℕ

/-- Position of a result element inside its chunk. -/
def inChunk (y : S8x14336.Idx) : S8x512.Idx := fun a =>
  match a with
  | ⟨0, _⟩ => ⟨(y 0).val, (y 0).isLt⟩
  | ⟨1, _⟩ => ⟨(y 1).val % 512, Nat.mod_lt _ (by decide)⟩

/-- The chunk of a result element. -/
def chunkOf (y : S8x14336.Idx) : Chunk := ⟨(y 1).val / 512, by
  rw [trips_eq]; have h : (y 1).val < 14336 := (y 1).isLt; omega⟩

/-- The whole result, chunk by chunk. -/
def outArr (c : Dev nD) (fw : BufOf (F := F) c wbM) (fs : BufOf (F := F) c sbM) (gx : BufOf (F := F) c xmM) : Vec F S8x14336 .bf16 :=
  fun y => (tripRun c (chunkOf y) fw fs gx).1 (inChunk y)

/-- Chunk `i` before trip `k`. -/
def stAt (c : Dev nD) (fh : BufOf (F := F) c whM) (fw : BufOf (F := F) c wbM) (k : ℕ) (i : Chunk) : sProp 𝕄 :=
  if i.val < k then done c fh fw i else flying c fh fw i

/-- The loop's invariant. -/
def inv (c : Dev nD) (arg3 : Memref sig .tc .vmem S8x14336 .bf16) (fh : BufOf (F := F) c whM) (fw : BufOf (F := F) c wbM)
    (fs : BufOf (F := F) c sbM) (gx : BufOf (F := F) c xmM) (k : ℕ) (_ : PUnit.{1}) : sProp 𝕄 :=
  iprop(bigSep Finset.univ (stAt c fh fw k)
    ∗ (sbM.view.loc (c : Thread nD τ) ↦{fullShare} fs) ∗ (xmM.view.loc (c : Thread nD τ) ↦{fullShare} gx)
    ∗ (∃ fc, scM.view.loc (c : Thread nD τ) ↦{fullShare} fc)
    ∗ (∃ fo, (arg3.view.loc (c : Thread nD τ) ↦[arg3.view.set]{fullShare} fo)
        ∗ ⌜∀ y : S8x14336.Idx, (y 1).val < 512 * k → arg3.view.read (Elt F) fo y = outArr c fw fs gx y⌝)
    ∗ ∃ W, owes (c : Thread nD τ) 0 W)

/-- What trip `k` stores extends the final columns by one chunk. -/
theorem store_step (c : Dev nD) (k : Chunk) (arg3 : Memref sig .tc .vmem S8x14336 .bf16) (fw : BufOf (F := F) c wbM)
    (fs : BufOf (F := F) c sbM) (gx : BufOf (F := F) c xmM) (fo : BufOf (F := F) c arg3)
    (h : ∀ y : S8x14336.Idx, (y 1).val < 512 * k.val → arg3.view.read (Elt F) fo y = outArr c fw fs gx y) :
    ∀ y : S8x14336.Idx, (y 1).val < 512 * (k.val + 1) → arg3.view.read (Elt F) (arg3.view.writes (Elt F) fo
      [⟨Rect.unit (s := S8x14336) (k0_off20 k) S8x512.size (k0_off20_inb k), (tripRun c k fw fs gx).1⟩]) y = outArr c fw fs gx y := by
  intro y hy
  by_cases hlt : (y 1).val < 512 * k.val
  · rw [View.read_writes_cons_unit_of_not_mem arg3.view fo (k0_off20_inb k) _ [] y (k0_off20_eq k) 1 (.inl hlt)]
    exact h y hlt
  · have hk : chunkOf y = k := Fin.ext (by show (y 1).val / 512 = k.val; omega)
    subst hk
    rw [View.read_writes_cons_unit_of_mem arg3.view fo (k0_off20_inb (chunkOf y)) _ [] y (inChunk y) (k0_off20_eq (chunkOf y)) (fun a => by
      match a with
      | 0 => exact (Nat.zero_add _).symm
      | 1 => show (y 1).val = 512 * ((y 1).val / 512) + (y 1).val % 512; omega)]
    rfl

/-- One trip carries the invariant on. -/
theorem inv_step (c : Dev nD) (arg0 : Memref sig .tc .vmem S8x4096 .bf16) (harg0 : arg0.IsWhole)
    (arg3 : Memref sig .tc .vmem S8x14336 .bf16) (harg3 : arg3.IsWhole) (fh : BufOf (F := F) c whM) (fw : BufOf (F := F) c wbM)
    (fs : BufOf (F := F) c sbM) (gx : BufOf (F := F) c xmM) (k : Chunk) (acc : PUnit.{1}) :
    inv c arg3 fh fw fs gx k.val acc ⊢ wp frame (wpE (defs₀ (F := F)) Variants.none (c : Thread nD τ) none) Set.univ
      (k0_t1_body (F := F) arg0 harg0 shM (Memref.isWhole_whole _) whM (Memref.isWhole_whole _) arg3 harg3 wbM (Memref.isWhole_whole _)
          sbM (Memref.isWhole_whole _) xmM (Memref.isWhole_whole _) scM (Memref.isWhole_whole _) cc0_scratch4 cc0_scratch5 k acc)
      (inv c arg3 fh fw fs gx (k.val + 1)) := by
  have hrest : bigSep (Finset.univ.erase k) (stAt c fh fw k.val) = bigSep (Finset.univ.erase k) (stAt c fh fw (k.val + 1)) :=
    bigSep_congr fun i hi => by
      have hne : i.val ≠ k.val := fun h => (Finset.mem_erase.mp hi).1 (Fin.ext h)
      unfold stAt
      by_cases hlt : i.val < k.val
      · rw [if_pos hlt, if_pos (by omega)]
      · rw [if_neg hlt, if_neg (by omega)]
  have hk : stAt c fh fw k.val k = flying c fh fw k := if_neg (Nat.lt_irrefl _)
  have hk' : stAt c fh fw (k.val + 1) k = done c fh fw k := if_pos (Nat.lt_succ_self _)
  have e : bigSep Finset.univ (stAt c fh fw k.val)
      = iprop(flying c fh fw k ∗ bigSep (Finset.univ.erase k) (stAt c fh fw (k.val + 1))) := by
    rw [bigSep_univ_split k, hk, hrest]; rfl
  have e' : bigSep Finset.univ (stAt c fh fw (k.val + 1))
      = iprop(done c fh fw k ∗ bigSep (Finset.univ.erase k) (stAt c fh fw (k.val + 1))) := by
    rw [bigSep_univ_split k, hk']; rfl
  unfold inv
  rw [e, e']
  iintro ⟨⟨Hf, Hr⟩, Hs, Hx, ⟨%fc, Hc⟩, ⟨%fo, Ho, %ho⟩, ⟨%W, HO⟩⟩
  iapply (wp_wand_r (M := 𝕄) frame (wpE (defs₀ (F := F)) Variants.none (c : Thread nD τ) none) Set.univ)
  isplitl [Hf Hs Hx Hc Ho HO]
  · iapply ((tripRun c k fw fs gx).2 arg3 harg3 arg0 harg0 fh fc fo W)
    isplitl [Hf]; · iexact Hf
    isplitl [Hs]; · iexact Hs
    isplitl [Hx]; · iexact Hx
    isplitl [Hc]; · iexact Hc
    isplitl [Ho]; · iexact Ho
    iexact HO
  iintro %_ ⟨Hd, Hs, Hx, Hc, Ho, HO⟩
  isplitl [Hd Hr]
  · isplitl [Hd]; · iexact Hd
    iexact Hr
  isplitl [Hs]; · iexact Hs
  isplitl [Hx]; · iexact Hx
  isplitl [Hc]; · iexact Hc
  isplitl [Ho]
  · iexists _
    isplitl [Ho]; · iexact Ho
    ipureintro
    exact store_step c k arg3 fw fs gx fo ho
  iexact HO

/-- The loop as a whole. -/
theorem loop_run (c : Dev nD) (arg0 : Memref sig .tc .vmem S8x4096 .bf16) (harg0 : arg0.IsWhole)
    (arg3 : Memref sig .tc .vmem S8x14336 .bf16) (harg3 : arg3.IsWhole) (fh : BufOf (F := F) c whM) (fw : BufOf (F := F) c wbM)
    (fs : BufOf (F := F) c sbM) (gx : BufOf (F := F) c xmM) (K : PUnit.{1} → sProp 𝕄) :
    iprop(inv c arg3 fh fw fs gx 0 ⟨⟩ ∗ (inv c arg3 fh fw fs gx k0_t1_loop.trips ⟨⟩ -∗ K ⟨⟩))
      ⊢ wp frame (wpE (defs₀ (F := F)) Variants.none (c : Thread nD τ) none) Set.univ (loopProg arg0 harg0 arg3 harg3) K := by
  have h : iprop(inv c arg3 fh fw fs gx 0 ⟨⟩ ∗ (∀ acc, inv c arg3 fh fw fs gx k0_t1_loop.trips acc -∗
        wp frame (wpE (defs₀ (F := F)) Variants.none (c : Thread nD τ) none) Set.univ (pure PUnit.unit) K))
      ⊢ wp frame (wpE (defs₀ (F := F)) Variants.none (c : Thread nD τ) none) Set.univ (loopProg arg0 harg0 arg3 harg3) K :=
    BI.wand_elim (Scf.wp_for_bind (M := 𝕄) (kk := fun _ => pure PUnit.unit) (Q := K) frame
      (wpE (defs₀ (F := F)) Variants.none (c : Thread nD τ) none) Set.univ
      k0_t1_loop.lb k0_t1_loop.ub k0_t1_loop.st k0_t1_ok PUnit.unit _ (inv c arg3 fh fw fs gx)
      (fun k acc => inv_step c arg0 harg0 arg3 harg3 fh fw fs gx k acc))
  refine BIBase.Entails.trans ?_ h
  iintro ⟨Hi, Hk⟩
  isplitl [Hi]; · iexact Hi
  iintro %acc Hi
  sl_step
  iapply Hk
  iexact Hi

end Cert.KernelIdeal.Hand

end
-- ==== Proof.Ideal.Body.lean ====
/- The kernel body's run: prologue, loop, and the buffers whole again at the end. -/
module

public import proofs.«01_k».proof.Proof.Ideal.Join
public import proofs.«01_k».proof.Proof.Ideal.Loop

@[expose] public section

set_option maxRecDepth 65536
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (Pipeline.UD sig nD τ) ℕ

/-- What the staged activations hold, as contents fixed by their value. -/
def held (c : Dev nD) (arg0 : Memref sig .tc .vmem S8x4096 .bf16) (X : S8x4096.Idx → Elt F .bf16) : BufOf (F := F) c arg0 :=
  arg0.view.write (Elt F) arg0.view.junk X Finset.univ

theorem held_eq (c : Dev nD) (arg0 : Memref sig .tc .vmem S8x4096 .bf16) (X : S8x4096.Idx → Elt F .bf16) (f : BufOf (F := F) c arg0)
    (h : arg0.view.read (Elt F) f = X) : (arg0.view.loc (c : Thread nD τ) ↦[arg0.view.set]{fullShare} f : sProp 𝕄)
      = (arg0.view.loc (c : Thread nD τ) ↦[arg0.view.set]{fullShare} held c arg0 X) :=
  pointsTo_congr fun i hi => eq_on_of_read_eq arg0.view _ _ (h.trans (View.read_write_univ _ _).symm) i hi

/-- The body's result. -/
def bodyOut (c : Dev nD) (arg0 : Memref sig .tc .vmem S8x4096 .bf16) (harg0 : arg0.IsWhole) (X : S8x4096.Idx → Elt F .bf16)
    (fh : BufOf (F := F) c whM) (fsh : BufOf (F := F) c shM) : Vec F S8x14336 .bf16 :=
  outArr c (asW c fh) (asS c fsh) (prologueRun c arg0 harg0 (held c arg0 X)).1

/-- All chunks' cells at zero. -/
def cells (c : Dev nD) : sProp 𝕄 := bigSep Finset.univ fun k : Chunk => (semVal ((c : Thread nD τ), SemLoc.dma (cellSems k).sem) 0 : sProp 𝕄)

theorem stAt_zero (c : Dev nD) (fh : BufOf (F := F) c whM) (fw : BufOf (F := F) c wbM) : stAt c fh fw 0 = flying c fh fw :=
  funext fun i => if_neg (Nat.not_lt_zero _)
theorem stAt_end (c : Dev nD) (fh : BufOf (F := F) c whM) (fw : BufOf (F := F) c wbM) : stAt c fh fw k0_t1_loop.trips = done c fh fw :=
  funext fun i => if_pos i.isLt

/-- From the loop's start to the body's end. -/
theorem tail_run (c : Dev nD) (arg0 : Memref sig .tc .vmem S8x4096 .bf16) (harg0 : arg0.IsWhole)
    (arg3 : Memref sig .tc .vmem S8x14336 .bf16) (harg3 : arg3.IsWhole) (fh : BufOf (F := F) c whM) (fw : BufOf (F := F) c wbM)
    (fs : BufOf (F := F) c sbM) (gx : BufOf (F := F) c xmM) (K : PUnit → sProp 𝕄) :
    iprop(bigSep Finset.univ (flying c fh fw)
        ∗ (sbM.view.loc (c : Thread nD τ) ↦{fullShare} fs) ∗ (xmM.view.loc (c : Thread nD τ) ↦{fullShare} gx)
        ∗ (∃ fc, scM.view.loc (c : Thread nD τ) ↦{fullShare} fc) ∗ (∃ d, owns (c : Thread nD τ) arg3 fullShare d)
        ∗ (∃ W, owes (c : Thread nD τ) 0 W)
        ∗ (iprop((wbM.view.loc (c : Thread nD τ) ↦{fullShare} fw) ∗ (whM.view.loc (c : Thread nD τ) ↦{fullShare} fh) ∗ cells c
            ∗ (sbM.view.loc (c : Thread nD τ) ↦{fullShare} fs) ∗ (xmM.view.loc (c : Thread nD τ) ↦{fullShare} gx)
            ∗ (∃ fc, scM.view.loc (c : Thread nD τ) ↦{fullShare} fc) ∗ owns (c : Thread nD τ) arg3 fullShare (outArr c fw fs gx)
            ∗ (∃ W, owes (c : Thread nD τ) 0 W)) -∗ K ⟨⟩))
      ⊢ wp frame (wpE (defs₀ (F := F)) Variants.none (c : Thread nD τ) none) Set.univ (loopProg arg0 harg0 arg3 harg3) K := by
  have hl := loop_run c arg0 harg0 arg3 harg3 fh fw fs gx K
  unfold inv at hl
  rw [stAt_zero, stAt_end, done_all] at hl
  unfold owns
  iintro ⟨Hf, Hs, Hx, Hc, ⟨%d, %fo, -, Ho⟩, HO, Hk⟩
  iapply hl
  isplitl [Hf Hs Hx Hc Ho HO]
  · isplitl [Hf]; · iexact Hf
    isplitl [Hs]; · iexact Hs
    isplitl [Hx]; · iexact Hx
    isplitl [Hc]; · iexact Hc
    isplitl [Ho]
    · iexists fo
      isplitl [Ho]; · iexact Ho
      ipureintro
      exact fun y hy => absurd hy (Nat.not_lt_zero _)
    iexact HO
  iintro ⟨⟨Hw, Hh, Hv⟩, Hs, Hx, Hc, ⟨%fo', Ho, %h⟩, HO⟩
  iapply Hk
  isplitl [Hw]; · iexact Hw
  isplitl [Hh]; · iexact Hh
  isplitl [Hv]; · unfold cells; iexact Hv
  isplitl [Hs]; · iexact Hs
  isplitl [Hx]; · iexact Hx
  isplitl [Hc]; · iexact Hc
  isplitl [Ho]
  · iexists fo'
    isplitr
    · ipureintro
      refine funext fun y => h y ?_
      have h1 : (y 1).val < 14336 := (y 1).isLt
      rw [trips_eq]; omega
    iexact Ho
  iexact HO

/-- The body's run. -/
theorem bodyRun (c : Dev nD) (arg0 : Memref sig .tc .vmem S8x4096 .bf16) (harg0 : arg0.IsWhole)
    (arg3 : Memref sig .tc .vmem S8x14336 .bf16) (harg3 : arg3.IsWhole) (X : S8x4096.Idx → Elt F .bf16)
    (fh : BufOf (F := F) c whM) (fsh : BufOf (F := F) c shM) (W : Finset (SemLoc sig × Unit)) (K : PUnit → sProp 𝕄) :
    iprop(owns (c : Thread nD τ) arg0 fullShare X ∗ (∃ d, owns (c : Thread nD τ) arg3 fullShare d)
        ∗ (∃ f, wbM.view.loc (c : Thread nD τ) ↦{fullShare} f) ∗ (∃ f, sbM.view.loc (c : Thread nD τ) ↦{fullShare} f)
        ∗ (∃ f, xmM.view.loc (c : Thread nD τ) ↦{fullShare} f) ∗ (∃ f, scM.view.loc (c : Thread nD τ) ↦{fullShare} f)
        ∗ cells c ∗ (semVal ((c : Thread nD τ), SemLoc.dma 30) 0 : sProp 𝕄)
        ∗ (whM.view.loc (c : Thread nD τ) ↦{fullShare} fh) ∗ (shM.view.loc (c : Thread nD τ) ↦{fullShare} fsh)
        ∗ owes (c : Thread nD τ) 0 W
        ∗ (iprop(owns (c : Thread nD τ) arg0 fullShare X ∗ owns (c : Thread nD τ) arg3 fullShare (bodyOut c arg0 harg0 X fh fsh)
            ∗ (∃ f, wbM.view.loc (c : Thread nD τ) ↦{fullShare} f) ∗ (∃ f, sbM.view.loc (c : Thread nD τ) ↦{fullShare} f)
            ∗ (∃ f, xmM.view.loc (c : Thread nD τ) ↦{fullShare} f) ∗ (∃ f, scM.view.loc (c : Thread nD τ) ↦{fullShare} f)
            ∗ cells c ∗ (semVal ((c : Thread nD τ), SemLoc.dma 30) 0 : sProp 𝕄)
            ∗ (whM.view.loc (c : Thread nD τ) ↦{fullShare} fh) ∗ (shM.view.loc (c : Thread nD τ) ↦{fullShare} fsh)
            ∗ (∃ W, owes (c : Thread nD τ) 0 W)) -∗ K ⟨⟩))
      ⊢ wp frame (wpE (defs₀ (F := F)) Variants.none (c : Thread nD τ) none) Set.univ
        (cc0__body (F := F) arg0 harg0 shM (Memref.isWhole_whole _) whM (Memref.isWhole_whole _) arg3 harg3 wbM (Memref.isWhole_whole _)
          sbM (Memref.isWhole_whole _) xmM (Memref.isWhole_whole _) scM (Memref.isWhole_whole _) cc0_scratch4 cc0_scratch5) K := by
  have ht := tail_run c arg0 harg0 arg3 harg3 fh (asW c fh) (asS c fsh) (prologueRun c arg0 harg0 (held c arg0 X)).1 K
  unfold owns at ht
  unfold owns bodyOut
  iintro ⟨⟨%f0, %h0, H0⟩, Ho, ⟨%fw, Hw⟩, ⟨%fs, Hs⟩, ⟨%fx, Hx⟩, Hc, Hv, Hv28, Hh, Hsh, HO, Hk⟩
  have e := bigSep_chunks (done c fh fw)
  rw [done_at c fh fw ⟨0, by decide⟩ ![0, 0] inb_S14336x2048_S512x2048_0_0 (k0_off2_eq _) 2 (by decide),
    done_at c fh fw ⟨1, by decide⟩ ![512, 0] inb_S14336x2048_S512x2048_512_0 (k0_off2_eq _) 3 (by decide),
    done_at c fh fw ⟨2, by decide⟩ ![1024, 0] inb_S14336x2048_S512x2048_1024_0 (k0_off2_eq _) 4 (by decide),
    done_at c fh fw ⟨3, by decide⟩ ![1536, 0] inb_S14336x2048_S512x2048_1536_0 (k0_off2_eq _) 5 (by decide),
    done_at c fh fw ⟨4, by decide⟩ ![2048, 0] inb_S14336x2048_S512x2048_2048_0 (k0_off2_eq _) 6 (by decide),
    done_at c fh fw ⟨5, by decide⟩ ![2560, 0] inb_S14336x2048_S512x2048_2560_0 (k0_off2_eq _) 7 (by decide),
    done_at c fh fw ⟨6, by decide⟩ ![3072, 0] inb_S14336x2048_S512x2048_3072_0 (k0_off2_eq _) 8 (by decide),
    done_at c fh fw ⟨7, by decide⟩ ![3584, 0] inb_S14336x2048_S512x2048_3584_0 (k0_off2_eq _) 9 (by decide),
    done_at c fh fw ⟨8, by decide⟩ ![4096, 0] inb_S14336x2048_S512x2048_4096_0 (k0_off2_eq _) 10 (by decide),
    done_at c fh fw ⟨9, by decide⟩ ![4608, 0] inb_S14336x2048_S512x2048_4608_0 (k0_off2_eq _) 11 (by decide),
    done_at c fh fw ⟨10, by decide⟩ ![5120, 0] inb_S14336x2048_S512x2048_5120_0 (k0_off2_eq _) 12 (by decide),
    done_at c fh fw ⟨11, by decide⟩ ![5632, 0] inb_S14336x2048_S512x2048_5632_0 (k0_off2_eq _) 13 (by decide),
    done_at c fh fw ⟨12, by decide⟩ ![6144, 0] inb_S14336x2048_S512x2048_6144_0 (k0_off2_eq _) 14 (by decide),
    done_at c fh fw ⟨13, by decide⟩ ![6656, 0] inb_S14336x2048_S512x2048_6656_0 (k0_off2_eq _) 15 (by decide),
    done_at c fh fw ⟨14, by decide⟩ ![7168, 0] inb_S14336x2048_S512x2048_7168_0 (k0_off2_eq _) 16 (by decide),
    done_at c fh fw ⟨15, by decide⟩ ![7680, 0] inb_S14336x2048_S512x2048_7680_0 (k0_off2_eq _) 17 (by decide),
    done_at c fh fw ⟨16, by decide⟩ ![8192, 0] inb_S14336x2048_S512x2048_8192_0 (k0_off2_eq _) 18 (by decide),
    done_at c fh fw ⟨17, by decide⟩ ![8704, 0] inb_S14336x2048_S512x2048_8704_0 (k0_off2_eq _) 19 (by decide),
    done_at c fh fw ⟨18, by decide⟩ ![9216, 0] inb_S14336x2048_S512x2048_9216_0 (k0_off2_eq _) 20 (by decide),
    done_at c fh fw ⟨19, by decide⟩ ![9728, 0] inb_S14336x2048_S512x2048_9728_0 (k0_off2_eq _) 21 (by decide),
    done_at c fh fw ⟨20, by decide⟩ ![10240, 0] inb_S14336x2048_S512x2048_10240_0 (k0_off2_eq _) 22 (by decide),
    done_at c fh fw ⟨21, by decide⟩ ![10752, 0] inb_S14336x2048_S512x2048_10752_0 (k0_off2_eq _) 23 (by decide),
    done_at c fh fw ⟨22, by decide⟩ ![11264, 0] inb_S14336x2048_S512x2048_11264_0 (k0_off2_eq _) 24 (by decide),
    done_at c fh fw ⟨23, by decide⟩ ![11776, 0] inb_S14336x2048_S512x2048_11776_0 (k0_off2_eq _) 25 (by decide),
    done_at c fh fw ⟨24, by decide⟩ ![12288, 0] inb_S14336x2048_S512x2048_12288_0 (k0_off2_eq _) 26 (by decide),
    done_at c fh fw ⟨25, by decide⟩ ![12800, 0] inb_S14336x2048_S512x2048_12800_0 (k0_off2_eq _) 27 (by decide),
    done_at c fh fw ⟨26, by decide⟩ ![13312, 0] inb_S14336x2048_S512x2048_13312_0 (k0_off2_eq _) 28 (by decide),
    done_at c fh fw ⟨27, by decide⟩ ![13824, 0] inb_S14336x2048_S512x2048_13824_0 (k0_off2_eq _) 29 (by decide)] at e
  have hd : iprop((wbM.view.loc (c : Thread nD τ) ↦{fullShare} fw) ∗ (whM.view.loc (c : Thread nD τ) ↦{fullShare} fh) ∗ cells c : sProp 𝕄)
      ⊢ _ := Entails.of_eq ((done_all c fh fw).symm.trans e)
  ihave H0 := (Entails.of_eq (held_eq c arg0 X f0 h0)) $$ H0
  ihave Hd := hd $$ [Hw Hh Hv]
  · isplitl [Hw]; · iexact Hw
    isplitl [Hh]; · iexact Hh
    iexact Hv
  icases Hd with ⟨⟨Hb0, Hh0, Hv0⟩, ⟨Hb1, Hh1, Hv1⟩, ⟨Hb2, Hh2, Hv2⟩, ⟨Hb3, Hh3, Hv3⟩, ⟨Hb4, Hh4, Hv4⟩, ⟨Hb5, Hh5, Hv5⟩, ⟨Hb6, Hh6, Hv6⟩, ⟨Hb7, Hh7, Hv7⟩, ⟨Hb8, Hh8, Hv8⟩, ⟨Hb9, Hh9, Hv9⟩, ⟨Hb10, Hh10, Hv10⟩, ⟨Hb11, Hh11, Hv11⟩, ⟨Hb12, Hh12, Hv12⟩, ⟨Hb13, Hh13, Hv13⟩, ⟨Hb14, Hh14, Hv14⟩, ⟨Hb15, Hh15, Hv15⟩, ⟨Hb16, Hh16, Hv16⟩, ⟨Hb17, Hh17, Hv17⟩, ⟨Hb18, Hh18, Hv18⟩, ⟨Hb19, Hh19, Hv19⟩, ⟨Hb20, Hh20, Hv20⟩, ⟨Hb21, Hh21, Hv21⟩, ⟨Hb22, Hh22, Hv22⟩, ⟨Hb23, Hh23, Hv23⟩, ⟨Hb24, Hh24, Hv24⟩, ⟨Hb25, Hh25, Hv25⟩, ⟨Hb26, Hh26, Hv26⟩, ⟨Hb27, Hh27, Hv27⟩⟩
  iapply ((prologueRun c arg0 harg0 (held c arg0 X)).2 arg3 harg3 fh fw fsh fs fx W K)
  isplitl [Hsh]; · iexact Hsh
  isplitl [Hb0]; · iexact Hb0
  isplitl [Hh0]; · iexact Hh0
  isplitl [Hv0]; · iexact Hv0
  isplitl [Hb1]; · iexact Hb1
  isplitl [Hh1]; · iexact Hh1
  isplitl [Hv1]; · iexact Hv1
  isplitl [Hb2]; · iexact Hb2
  isplitl [Hh2]; · iexact Hh2
  isplitl [Hv2]; · iexact Hv2
  isplitl [Hb3]; · iexact Hb3
  isplitl [Hh3]; · iexact Hh3
  isplitl [Hv3]; · iexact Hv3
  isplitl [Hb4]; · iexact Hb4
  isplitl [Hh4]; · iexact Hh4
  isplitl [Hv4]; · iexact Hv4
  isplitl [Hb5]; · iexact Hb5
  isplitl [Hh5]; · iexact Hh5
  isplitl [Hv5]; · iexact Hv5
  isplitl [Hb6]; · iexact Hb6
  isplitl [Hh6]; · iexact Hh6
  isplitl [Hv6]; · iexact Hv6
  isplitl [Hb7]; · iexact Hb7
  isplitl [Hh7]; · iexact Hh7
  isplitl [Hv7]; · iexact Hv7
  isplitl [Hb8]; · iexact Hb8
  isplitl [Hh8]; · iexact Hh8
  isplitl [Hv8]; · iexact Hv8
  isplitl [Hb9]; · iexact Hb9
  isplitl [Hh9]; · iexact Hh9
  isplitl [Hv9]; · iexact Hv9
  isplitl [Hb10]; · iexact Hb10
  isplitl [Hh10]; · iexact Hh10
  isplitl [Hv10]; · iexact Hv10
  isplitl [Hb11]; · iexact Hb11
  isplitl [Hh11]; · iexact Hh11
  isplitl [Hv11]; · iexact Hv11
  isplitl [Hb12]; · iexact Hb12
  isplitl [Hh12]; · iexact Hh12
  isplitl [Hv12]; · iexact Hv12
  isplitl [Hb13]; · iexact Hb13
  isplitl [Hh13]; · iexact Hh13
  isplitl [Hv13]; · iexact Hv13
  isplitl [Hb14]; · iexact Hb14
  isplitl [Hh14]; · iexact Hh14
  isplitl [Hv14]; · iexact Hv14
  isplitl [Hb15]; · iexact Hb15
  isplitl [Hh15]; · iexact Hh15
  isplitl [Hv15]; · iexact Hv15
  isplitl [Hb16]; · iexact Hb16
  isplitl [Hh16]; · iexact Hh16
  isplitl [Hv16]; · iexact Hv16
  isplitl [Hb17]; · iexact Hb17
  isplitl [Hh17]; · iexact Hh17
  isplitl [Hv17]; · iexact Hv17
  isplitl [Hb18]; · iexact Hb18
  isplitl [Hh18]; · iexact Hh18
  isplitl [Hv18]; · iexact Hv18
  isplitl [Hb19]; · iexact Hb19
  isplitl [Hh19]; · iexact Hh19
  isplitl [Hv19]; · iexact Hv19
  isplitl [Hb20]; · iexact Hb20
  isplitl [Hh20]; · iexact Hh20
  isplitl [Hv20]; · iexact Hv20
  isplitl [Hb21]; · iexact Hb21
  isplitl [Hh21]; · iexact Hh21
  isplitl [Hv21]; · iexact Hv21
  isplitl [Hb22]; · iexact Hb22
  isplitl [Hh22]; · iexact Hh22
  isplitl [Hv22]; · iexact Hv22
  isplitl [Hb23]; · iexact Hb23
  isplitl [Hh23]; · iexact Hh23
  isplitl [Hv23]; · iexact Hv23
  isplitl [Hb24]; · iexact Hb24
  isplitl [Hh24]; · iexact Hh24
  isplitl [Hv24]; · iexact Hv24
  isplitl [Hb25]; · iexact Hb25
  isplitl [Hh25]; · iexact Hh25
  isplitl [Hv25]; · iexact Hv25
  isplitl [Hb26]; · iexact Hb26
  isplitl [Hh26]; · iexact Hh26
  isplitl [Hv26]; · iexact Hv26
  isplitl [Hb27]; · iexact Hb27
  isplitl [Hh27]; · iexact Hh27
  isplitl [Hv27]; · iexact Hv27
  isplitl [Hv28]; · iexact Hv28
  isplitl [Hs]; · iexact Hs
  isplitl [Hx]; · iexact Hx
  isplitl [H0]; · iexact H0
  isplitl [HO]; · iexact HO
  iintro ⟨Hf, Hsh, Hv28, Hs, Hx, H0, HO⟩
  iapply ht
  isplitl [Hf]; · iexact Hf
  isplitl [Hs]; · iexact Hs
  isplitl [Hx]; · iexact Hx
  isplitl [Hc]; · iexact Hc
  isplitl [Ho]; · iexact Ho
  isplitl [HO]; · iexact HO
  iintro ⟨Hw, Hh, Hv, Hs, Hx, Hc, Ho, HO⟩
  iapply Hk
  isplitl [H0]
  · iexists (held c arg0 X)
    isplitr
    · ipureintro; exact View.read_write_univ _ _
    iexact H0
  isplitl [Ho]; · iexact Ho
  isplitl [Hw]; · iexists _; iexact Hw
  isplitl [Hs]; · iexists _; iexact Hs
  isplitl [Hx]; · iexists _; iexact Hx
  isplitl [Hc]; · iexact Hc
  isplitl [Hv]; · iexact Hv
  isplitl [Hv28]; · iexact Hv28
  isplitl [Hh]; · iexact Hh
  isplitl [Hsh]; · iexact Hsh
  iexact HO

end Cert.KernelIdeal.Hand

end
-- ==== Proof.Ideal.Frame.lean ====
/- The whole program's run: the arguments end as launched, every semaphore ends at zero, and the result is the tail's value. -/
module

public import proofs.«01_k».proof.Proof.Ideal.Body
public import proofs.«01_k».proof.Proof.Gen.KernelIdeal.Frame

@[expose] public section

set_option maxRecDepth 65536
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open Idealize.ShloMosaic.Pipeline
open scoped Idealize.SL.BI
open Idealize.SL.BI.BIBase Idealize.SL.BI.Laws Idealize.SL.ProofMode Idealize.SL.Sem

variable {F : FTy → Type} [FloatOps F]
local notation "𝕄" => MT nD τ sig Unit (Elt F) ℕ (Pipeline.UD sig nD τ) ℕ

/-! ## The kernel's own semaphores and operands -/

/-- The kernel's 29 copy semaphores. -/
def osem0 : Fin 29 → SemLoc sig := fun i => SemLoc.dma ⟨i.val + 2, by have := i.isLt; show i.val + 2 < 31; omega⟩
/-- The operands the kernel copies itself. -/
def H0 : Finset (Ref sig .tc) := {main_arg1, main_arg2}
theorem ownSemFacts0 : Pipeline.OwnSemFacts spec0 osem0 := by decide
theorem H0_sub : H0 ⊆ Pipeline.restRefs sig spec0 := by decide

theorem cell_no (k : Chunk) (sm : DmaSem sig) (h : (cellSems k).sem = sm) (c : Dev nD) :
    (semVal ((c : Thread nD τ), SemLoc.dma (cellSems k).sem) 0 : sProp 𝕄) = semVal ((c : Thread nD τ), SemLoc.dma sm) 0 := by rw [h]

theorem cells_eq (c : Dev nD) : (cells c : sProp 𝕄) = iprop((semVal ((c : Thread nD τ), SemLoc.dma 2) 0 : sProp 𝕄) ∗ (semVal ((c : Thread nD τ), SemLoc.dma 3) 0 : sProp 𝕄) ∗ (semVal ((c : Thread nD τ), SemLoc.dma 4) 0 : sProp 𝕄) ∗ (semVal ((c : Thread nD τ), SemLoc.dma 5) 0 : sProp 𝕄) ∗ (semVal ((c : Thread nD τ), SemLoc.dma 6) 0 : sProp 𝕄) ∗ (semVal ((c : Thread nD τ), SemLoc.dma 7) 0 : sProp 𝕄) ∗ (semVal ((c : Thread nD τ), SemLoc.dma 8) 0 : sProp 𝕄) ∗ (semVal ((c : Thread nD τ), SemLoc.dma 9) 0 : sProp 𝕄) ∗ (semVal ((c : Thread nD τ), SemLoc.dma 10) 0 : sProp 𝕄) ∗ (semVal ((c : Thread nD τ), SemLoc.dma 11) 0 : sProp 𝕄) ∗ (semVal ((c : Thread nD τ), SemLoc.dma 12) 0 : sProp 𝕄) ∗ (semVal ((c : Thread nD τ), SemLoc.dma 13) 0 : sProp 𝕄) ∗ (semVal ((c : Thread nD τ), SemLoc.dma 14) 0 : sProp 𝕄) ∗ (semVal ((c : Thread nD τ), SemLoc.dma 15) 0 : sProp 𝕄) ∗ (semVal ((c : Thread nD τ), SemLoc.dma 16) 0 : sProp 𝕄) ∗ (semVal ((c : Thread nD τ), SemLoc.dma 17) 0 : sProp 𝕄) ∗ (semVal ((c : Thread nD τ), SemLoc.dma 18) 0 : sProp 𝕄) ∗ (semVal ((c : Thread nD τ), SemLoc.dma 19) 0 : sProp 𝕄) ∗ (semVal ((c : Thread nD τ), SemLoc.dma 20) 0 : sProp 𝕄) ∗ (semVal ((c : Thread nD τ), SemLoc.dma 21) 0 : sProp 𝕄) ∗ (semVal ((c : Thread nD τ), SemLoc.dma 22) 0 : sProp 𝕄) ∗ (semVal ((c : Thread nD τ), SemLoc.dma 23) 0 : sProp 𝕄) ∗ (semVal ((c : Thread nD τ), SemLoc.dma 24) 0 : sProp 𝕄) ∗ (semVal ((c : Thread nD τ), SemLoc.dma 25) 0 : sProp 𝕄) ∗ (semVal ((c : Thread nD τ), SemLoc.dma 26) 0 : sProp 𝕄) ∗ (semVal ((c : Thread nD τ), SemLoc.dma 27) 0 : sProp 𝕄) ∗ (semVal ((c : Thread nD τ), SemLoc.dma 28) 0 : sProp 𝕄) ∗ (semVal ((c : Thread nD τ), SemLoc.dma 29) 0 : sProp 𝕄)) := by
  unfold cells
  rw [bigSep_chunks]
  rw [cell_no ⟨0, by decide⟩ 2 (by decide), cell_no ⟨1, by decide⟩ 3 (by decide), cell_no ⟨2, by decide⟩ 4 (by decide), cell_no ⟨3, by decide⟩ 5 (by decide), cell_no ⟨4, by decide⟩ 6 (by decide), cell_no ⟨5, by decide⟩ 7 (by decide), cell_no ⟨6, by decide⟩ 8 (by decide), cell_no ⟨7, by decide⟩ 9 (by decide), cell_no ⟨8, by decide⟩ 10 (by decide), cell_no ⟨9, by decide⟩ 11 (by decide), cell_no ⟨10, by decide⟩ 12 (by decide), cell_no ⟨11, by decide⟩ 13 (by decide), cell_no ⟨12, by decide⟩ 14 (by decide), cell_no ⟨13, by decide⟩ 15 (by decide), cell_no ⟨14, by decide⟩ 16 (by decide), cell_no ⟨15, by decide⟩ 17 (by decide), cell_no ⟨16, by decide⟩ 18 (by decide), cell_no ⟨17, by decide⟩ 19 (by decide), cell_no ⟨18, by decide⟩ 20 (by decide), cell_no ⟨19, by decide⟩ 21 (by decide), cell_no ⟨20, by decide⟩ 22 (by decide), cell_no ⟨21, by decide⟩ 23 (by decide), cell_no ⟨22, by decide⟩ 24 (by decide), cell_no ⟨23, by decide⟩ 25 (by decide), cell_no ⟨24, by decide⟩ 26 (by decide), cell_no ⟨25, by decide⟩ 27 (by decide), cell_no ⟨26, by decide⟩ 28 (by decide), cell_no ⟨27, by decide⟩ 29 (by decide)]

theorem sems_eq (c : Dev nD) : (Pipeline.ownSems0 osem0 c : sProp 𝕄) = iprop((semVal ((c : Thread nD τ), SemLoc.dma 2) 0 : sProp 𝕄) ∗ (semVal ((c : Thread nD τ), SemLoc.dma 3) 0 : sProp 𝕄) ∗ (semVal ((c : Thread nD τ), SemLoc.dma 4) 0 : sProp 𝕄) ∗ (semVal ((c : Thread nD τ), SemLoc.dma 5) 0 : sProp 𝕄) ∗ (semVal ((c : Thread nD τ), SemLoc.dma 6) 0 : sProp 𝕄) ∗ (semVal ((c : Thread nD τ), SemLoc.dma 7) 0 : sProp 𝕄) ∗ (semVal ((c : Thread nD τ), SemLoc.dma 8) 0 : sProp 𝕄) ∗ (semVal ((c : Thread nD τ), SemLoc.dma 9) 0 : sProp 𝕄) ∗ (semVal ((c : Thread nD τ), SemLoc.dma 10) 0 : sProp 𝕄) ∗ (semVal ((c : Thread nD τ), SemLoc.dma 11) 0 : sProp 𝕄) ∗ (semVal ((c : Thread nD τ), SemLoc.dma 12) 0 : sProp 𝕄) ∗ (semVal ((c : Thread nD τ), SemLoc.dma 13) 0 : sProp 𝕄) ∗ (semVal ((c : Thread nD τ), SemLoc.dma 14) 0 : sProp 𝕄) ∗ (semVal ((c : Thread nD τ), SemLoc.dma 15) 0 : sProp 𝕄) ∗ (semVal ((c : Thread nD τ), SemLoc.dma 16) 0 : sProp 𝕄) ∗ (semVal ((c : Thread nD τ), SemLoc.dma 17) 0 : sProp 𝕄) ∗ (semVal ((c : Thread nD τ), SemLoc.dma 18) 0 : sProp 𝕄) ∗ (semVal ((c : Thread nD τ), SemLoc.dma 19) 0 : sProp 𝕄) ∗ (semVal ((c : Thread nD τ), SemLoc.dma 20) 0 : sProp 𝕄) ∗ (semVal ((c : Thread nD τ), SemLoc.dma 21) 0 : sProp 𝕄) ∗ (semVal ((c : Thread nD τ), SemLoc.dma 22) 0 : sProp 𝕄) ∗ (semVal ((c : Thread nD τ), SemLoc.dma 23) 0 : sProp 𝕄) ∗ (semVal ((c : Thread nD τ), SemLoc.dma 24) 0 : sProp 𝕄) ∗ (semVal ((c : Thread nD τ), SemLoc.dma 25) 0 : sProp 𝕄) ∗ (semVal ((c : Thread nD τ), SemLoc.dma 26) 0 : sProp 𝕄) ∗ (semVal ((c : Thread nD τ), SemLoc.dma 27) 0 : sProp 𝕄) ∗ (semVal ((c : Thread nD τ), SemLoc.dma 28) 0 : sProp 𝕄) ∗ (semVal ((c : Thread nD τ), SemLoc.dma 29) 0 : sProp 𝕄) ∗ (semVal ((c : Thread nD τ), SemLoc.dma 30) 0 : sProp 𝕄)) := by
  rw [Pipeline.ownSems0_eq_of_list c osem0 [0, 1, 2, 3, 4, 5, 6, 7, 8, 9, 10, 11, 12, 13, 14, 15, 16, 17, 18, 19, 20, 21, 22, 23, 24, 25, 26, 27, 28] (by decide) (by decide)]; rfl

theorem sems_open (c : Dev nD) : (Pipeline.ownSems0 osem0 c : sProp 𝕄) ⊢ iprop(cells c ∗ semVal ((c : Thread nD τ), SemLoc.dma 30) 0) := by
  rw [sems_eq, cells_eq]
  iintro ⟨H0, H1, H2, H3, H4, H5, H6, H7, H8, H9, H10, H11, H12, H13, H14, H15, H16, H17, H18, H19, H20, H21, H22, H23, H24, H25, H26, H27, H28⟩
  isplitr [H28]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    iexact H27
  iexact H28

theorem sems_close (c : Dev nD) : iprop(cells c ∗ semVal ((c : Thread nD τ), SemLoc.dma 30) 0 : sProp 𝕄) ⊢ Pipeline.ownSems0 osem0 c := by
  rw [sems_eq, cells_eq]
  iintro ⟨⟨H0, H1, H2, H3, H4, H5, H6, H7, H8, H9, H10, H11, H12, H13, H14, H15, H16, H17, H18, H19, H20, H21, H22, H23, H24, H25, H26, H27⟩, H28⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  iexact H28

/-! ## The proof data -/

variable (m : (ℓ : Loc nD τ sig) → Buf (Elt F) ℓ) (ρ : Dev nD → PrngReg)

/-- The staging memrefs at a point. -/
abbrev ms0_0 (t : Fin cfg0.N) : Memref sig .tc .vmem S8x4096 .bf16 := win0_0.stage (cfg0.slots t 0)
abbrev ms0_1 (t : Fin cfg0.N) : Memref sig .tc .vmem S8x14336 .bf16 := win0_1.stage (cfg0.slots t 1)

/-- What the body computes from the program's buffers. -/
def outAt (c : Dev nD) (t : Fin cfg0.N) : S8x14336.Idx → Elt F .bf16 :=
  bodyOut c (win0_0.stage (cfg0.slots t 0)) (hstage0_0 0) (iblk m c 0 t) (V m c main_arg1) (V m c main_arg2)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => outAt m c t
  Φ _ := Pipeline.ΦD osem0 spec0 H0 (V m) c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = outAt m c t := by dsimp only [dats]

theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)

theorem Phi_eq (c : Dev nD) : (Pipeline.ΦD osem0 spec0 H0 (V m) c : sProp 𝕄)
    = iprop(((∃ f : Buf (Elt F) ((c : Thread nD τ).loc cc0_scratch0), ((c : Thread nD τ).loc cc0_scratch0) ↦{fullShare} f)
        ∗ (∃ f : Buf (Elt F) ((c : Thread nD τ).loc cc0_scratch1), ((c : Thread nD τ).loc cc0_scratch1) ↦{fullShare} f)
        ∗ (∃ f : Buf (Elt F) ((c : Thread nD τ).loc cc0_scratch2), ((c : Thread nD τ).loc cc0_scratch2) ↦{fullShare} f)
        ∗ (∃ f : Buf (Elt F) ((c : Thread nD τ).loc cc0_scratch3), ((c : Thread nD τ).loc cc0_scratch3) ↦{fullShare} f))
      ∗ (∃ r, prngReg c r) ∗ Pipeline.ownSems0 osem0 c
      ∗ ((c : Thread nD τ).loc main_arg1 ↦{fullShare} V m c main_arg1) ∗ ((c : Thread nD τ).loc main_arg2 ↦{fullShare} V m c main_arg2)) := by
  rw [Pipeline.ΦD_eq, scopedRest0_eq, BI.bigSep_eq_bigSepL_of_eq [main_arg1, main_arg2] (by decide) (by decide)]
  rfl

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t))

/-- The body's run over what the pipeline hands it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl, after0_0, after0_1]
  rw [show (dats m 0 c).Φ t.castSucc = Pipeline.ΦD osem0 spec0 H0 (V m) c from rfl, Phi_eq]
  simp only [before0_0]
  unfold Dat.owesAt Pipeline.owesWithin
  rw [show (dats m 0 c).owed t.castSucc = 0 from rfl, show (dats m 0 c).owed t.succ = 0 from rfl]
  unfold outAt
  have hb := bodyRun c (win0_0.stage (cfg0.slots t 0)) (hstage0_0 0) (win0_1.stage (cfg0.slots t 1)) (hstage0_1 0) (iblk m c 0 t)
    (V m c main_arg1) (V m c main_arg2)
  iintro ⟨⟨⟨HS0, HS1, HS2, HS3⟩, Hg, Hq, Hh1, Hh2⟩, ⟨%W, -, HW⟩, ⟨%d0, H0⟩, ⟨%d1, H1⟩⟩
  ihave Hq := (sems_open (F := F) c) $$ Hq
  icases Hq with ⟨Hq, Hq30⟩
  iapply (hb W _)
  isplitl [H0]; · iexact H0
  isplitl [H1]; · iexists _; iexact H1
  isplitl [HS0]; · iexact HS0
  isplitl [HS1]; · iexact HS1
  isplitl [HS2]; · iexact HS2
  isplitl [HS3]; · iexact HS3
  isplitl [Hq]; · iexact Hq
  isplitl [Hq30]; · iexact Hq30
  isplitl [Hh1]; · iexact Hh1
  isplitl [Hh2]; · iexact Hh2
  isplitl [HW]; · iexact HW
  iintro ⟨H0, H1, HS0, HS1, HS2, HS3, Hq, Hq30, Hh1, Hh2, ⟨%W', HW'⟩⟩
  isplitl [HS0 HS1 HS2 HS3 Hg Hq Hq30 Hh1 Hh2]
  · isplitl [HS0 HS1 HS2 HS3]
    · isplitl [HS0]; · iexact HS0
      isplitl [HS1]; · iexact HS1
      isplitl [HS2]; · iexact HS2
      iexact HS3
    isplitl [Hg]; · iexact Hg
    isplitl [Hq Hq30]
    · iapply (sems_close (F := F) c)
      isplitl [Hq]; · iexact Hq
      iexact Hq30
    isplitl [Hh1]; · iexact Hh1
    iexact Hh2
  isplitl [HW']
  · iexists W'; isplitr; · ipureintro; exact fun _ _ => Or.inl trivial
    iexact HW'
  isplitl [H0]; · iexact H0
  iexact H1

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

/-- No host operation after the region writes `main_arg0`: it ends as launched. -/
theorem end_arg0 (dats : (p : Fin _) → (c : Dev nD) → Dat τ (Elt F) Unit ℕ (Pipeline.UD sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation after the region writes `main_arg1`: it ends as launched. -/
theorem end_arg1 (dats : (p : Fin _) → (c : Dev nD) → Dat τ (Elt F) Unit ℕ (Pipeline.UD sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation after the region writes `main_arg2`: it ends as launched. -/
theorem end_arg2 (dats : (p : Fin _) → (c : Dev nD) → Dat τ (Elt F) Unit ℕ (Pipeline.UD sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- The host line after the region touches neither operand the kernel copies. -/
theorem tail_sub : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  subst hops
  refine Pipeline.sub_tailRefsBut _ _ _ op ((List.forall_iff_forall_mem.mp hostOps1_sub) op hop) (fun k => k.elim0) ?_
  simp only [hostOps1, List.mem_cons, List.mem_nil_iff, or_false] at hop
  subst hop
  intro b hb
  simp only [H0, Finset.mem_insert, Finset.mem_singleton] at hb
  rcases hb with rfl | rfl
  all_goals
    intro h
    simp only [StableHlo.reshape_bufs, Finset.mem_insert, Finset.mem_singleton] at h
    rcases h with h | h
    all_goals exact absurd h (StableHlo.devRef_ne_of_ne (by decide))

theorem hmainD : Pipeline.HMainK (Ix := Unit) (Name := ℕ) (U := Pipeline.UD sig nD τ) (Lvl := ℕ) cfgs 0 defs₀ Variants.none m (main (F := F)) (V m)
      (fun _ => Pipeline.chain ([hostOps1].map StableHlo.seq)) :=
  Pipeline.hmain_around cfgs 0 defs₀ Variants.none m main [hostOps0] [hostOps1] (by simp only [List.Forall]; exact hostOps0_sub)
    (by simp only [List.Forall]; exact hostOps0_fresh) main_chain

set_option backward.isDefEq.respectTransparency.types false in
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_dma_around (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V₀ := V0 m) (opss := [hostOps1]) (hsub := tail_sub) (hfresh := sfx_fresh) (hkeep := sfx_keeps)
    (hmain := hmainD m) (hA := A_eq m) (hin := fun _ => .rfl) (hout := fun _ => .rfl)

/-- The run with everything the claims read: the arguments, the semaphores and the result. -/
theorem run_full : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.mem ((c.tc : Thread nD τ).loc main_v2) = Pipeline.afterTail₀ cfgs (dats m) 0 (V0 m) [hostOps1] c main_v2)
      ∧ r.2.sem = fun _ => 0) :=
  (θ_run defs _ _).mono (fun _ h => ⟨fun c => ⟨⟨
      ((h.1 c).2 main_arg0 (Pipeline.mem_restRefs_of main_arg0 (by decide) (by decide))).trans (end_arg0 m (dats m) c),
      ((h.1 c).2 main_arg1 (Pipeline.mem_restRefs_of main_arg1 (by decide) (by decide))).trans (end_arg1 m (dats m) c),
      ((h.1 c).2 main_arg2 (Pipeline.mem_restRefs_of main_arg2 (by decide) (by decide))).trans (end_arg2 m (dats m) c)⟩,
      (h.1 c).2 main_v2 (Pipeline.mem_restRefs_of main_v2 (by decide) (by decide))⟩, h.2⟩) (run_main m ρ)

/-- The frame claim's run. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => (h.1 c).1, h.2⟩) (run_full m ρ)

end Cert.KernelIdeal.Hand

end
-- ==== Proof.RefValue.lean ====
/- The reference's run, with every semaphore counter at zero: it declares none. -/
module

public import proofs.«01_k».proof.Defs
public import proofs.«01_k».proof.Proof.Gen.ReferenceIdeal.Run
public import Idealize.ShloMosaic.Adequacy
public import proofs.«01_k».proof.Proof.Gen.ReferenceIdeal.Read

@[expose] public section

noncomputable section

namespace Cert.ReferenceIdeal.Hand

open Cert.ReferenceIdeal Cert.ReferenceIdeal.Gen
open Idealize.ShloMosaic Idealize.ShloMosaic.TcCoe Idealize.SL.Sem

variable {F : FTy → Type} [FloatOps F]

/-- The arguments end as launched and the counters at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => (h c).2, sem_eq_zero_of_no_sems (by decide) r.2⟩) (Value.run m ρ)

end Cert.ReferenceIdeal.Hand

end
-- ==== Proof.Value.Spec.lean ====
/- What one weight is worth, as both programs read it: the four-bit code a byte of the packed weights holds, the code's
   value, the scale's value, and that the kernel's bit arithmetic on the codes gives the same values. -/
module

public import proofs.«01_k».proof.Proof.Gen.KernelIdeal.Skeleton
public import Idealize.ShloMosaic.Lib.Pointwise

@[expose] public section

set_option maxRecDepth 65536

noncomputable section

namespace Cert.Value

open Idealize.ShloMosaic

/-- The code of one input: the low four bits of its byte at an even input, the high four bits at an odd one. -/
def nib (b : BitVec 8) (p : ℕ) : BitVec 32 :=
  if _h : p < 1 then IntOp.andi (b.setWidth 32) 15#32 else IntOp.shrsi ArithUnit.host (b.setWidth 32) 4#32

/-- A code's value: three bits pick one of the eight magnitudes, the fourth is the sign. -/
def codeMag (n : BitVec 32) : EReal :=
  Scalar.select (IntOp.cmpi CmpIPredicate.ne (IntOp.andi n 4#32) 0#32)
    (Scalar.select (IntOp.cmpi CmpIPredicate.ne (IntOp.andi n 2#32) 0#32)
      (Scalar.select (IntOp.cmpi CmpIPredicate.ne (IntOp.andi n 1#32) 0#32) (Ideal.ofBits FTy.bf16 16576#16)
        (Ideal.ofBits FTy.bf16 16512#16))
      (Scalar.select (IntOp.cmpi CmpIPredicate.ne (IntOp.andi n 1#32) 0#32) (Ideal.ofBits FTy.bf16 16448#16)
        (Ideal.ofBits FTy.bf16 16384#16)))
    (Scalar.select (IntOp.cmpi CmpIPredicate.ne (IntOp.andi n 2#32) 0#32)
      (Scalar.select (IntOp.cmpi CmpIPredicate.ne (IntOp.andi n 1#32) 0#32) (Ideal.ofBits FTy.bf16 16320#16) 1)
      (Scalar.select (IntOp.cmpi CmpIPredicate.ne (IntOp.andi n 1#32) 0#32) (Ideal.ofBits FTy.bf16 16128#16) 0))

/-- The same with its sign. -/
def codeVal (n : BitVec 32) : EReal :=
  Scalar.select (IntOp.cmpi CmpIPredicate.ne (IntOp.andi n 8#32) 0#32) (-codeMag n) (codeMag n)

/-- A scale's value: two to the power of its code less 127. -/
def scaleVal (e : BitVec 8) : EReal :=
  Ideal.pow (Ideal.ofBits FTy.f32 1073741824#32)
    (FloatOps.sitofp (F := Ideal) FTy.f32 (IntOp.subi (BitVec.setWidth 32 e) 127#32))

/-- The bits the kernel makes of one code's magnitude: half the word at the two smallest, an exponent field otherwise. -/
def magBits (n : BitVec 32) : BitVec 32 :=
  Scalar.select (IntOp.cmpi CmpIPredicate.slt (IntOp.andi n 7#32) 2#32) (IntOp.muli (IntOp.andi n 7#32) 16128#32)
    (IntOp.addi 16128#32 (IntOp.shli ArithUnit.vector (IntOp.andi n 7#32) 6#32))

/-- The 32-bit word the kernel makes of one byte: the low code's 16 bits below the high code's. -/
def pairWord (b : BitVec 8) : BitVec 32 :=
  IntOp.ori
    (IntOp.ori (magBits (IntOp.andi (b.setWidth 32) 15#32))
      (IntOp.shli ArithUnit.vector (IntOp.andi (IntOp.andi (b.setWidth 32) 15#32) 8#32) 12#32))
    (IntOp.shli ArithUnit.vector
      (IntOp.ori (magBits (IntOp.shrsi ArithUnit.vector (b.setWidth 32) 4#32))
        (IntOp.shli ArithUnit.vector (IntOp.andi (IntOp.shrsi ArithUnit.vector (b.setWidth 32) 4#32) 8#32) 12#32)) 16#32)

/-- The 16 bits of one code. -/
def codeBits (n : BitVec 32) : BitVec 16 :=
  (IntOp.ori (magBits n) (IntOp.shli ArithUnit.vector (IntOp.andi n 8#32) 12#32)).setWidth 16

theorem pairWord_bits : ∀ (b : BitVec 8) (p : Fin 2), (pairWord b).extractLsb' (16 * p.val) 16 = codeBits (nib b p.val) := by
  decide +kernel

theorem nib_lt : ∀ (b : BitVec 8) (p : Fin 2), ∃ n : Fin 16, nib b p.val = BitVec.ofNat 32 n.val := by
  decide +kernel

/-- The kernel's bits of a code are the code's value. -/
theorem ofBits_codeBits (b : BitVec 8) (p : Fin 2) : Ideal.ofBits FTy.bf16 (codeBits (nib b p.val)) = codeVal (nib b p.val) := by
  obtain ⟨n, hn⟩ := nib_lt b p
  rw [hn]
  fin_cases n <;>
    simp [codeVal, codeMag, codeBits, magBits, Scalar.select, IntOp.cmpi, IntOp.andi, IntOp.ori, IntOp.muli, IntOp.addi, IntOp.shli,
      Ideal.ofBits, Ideal.ieee, -EReal.coe_mul] <;> norm_num

/-- A scale's value is two to the power of its code less 127, a real number. -/
theorem scaleVal_eq (e : BitVec 8) : scaleVal e = (((2 : ℝ) ^ ((e.toNat : ℤ) - 127) : ℝ) : EReal) := by
  have h2 : Ideal.ofBits FTy.f32 1073741824#32 = ((2 : ℝ) : EReal) := by
    simp [Ideal.ofBits, Ideal.ieee, -EReal.coe_mul]; norm_num
  have hi : ∀ e : BitVec 8, (IntOp.subi (BitVec.setWidth 32 e) 127#32).toInt = (e.toNat : ℤ) - 127 := by decide +kernel
  unfold scaleVal
  rw [h2]
  show Ideal.pow ((2 : ℝ) : EReal) ((((IntOp.subi (BitVec.setWidth 32 e) 127#32).toInt : ℝ)) : EReal) = _
  rw [hi]
  show ((Real.rpow 2 (((e.toNat : ℤ) - 127 : ℤ) : ℝ) : ℝ) : EReal) = _
  congr 1
  exact Real.rpow_intCast 2 _

/-- A word with a clear sign and no fraction is two to the power of its exponent field less 127. -/
theorem ieee_pow (w : BitVec 32) (k : ℕ) (ha : (w.extractLsb' 31 1 == 1#1) = false) (hb : (w.extractLsb' 23 8).toNat = k)
    (hc : (w.extractLsb' 0 23).toNat = 0) (n0 : k ≠ 0) (n1 : k ≠ 255) :
    Ideal.ieee 8 23 w = (((2 : ℝ) ^ ((k : ℤ) - 127) : ℝ) : EReal) := by
  have n2 : k ≠ 2 ^ 8 - 1 := n1
  unfold Ideal.ieee
  simp only [ha, hb, hc, if_neg n0, if_neg n2]
  congr 1
  have : ((k : ℤ) - 127) = ((k : ℤ) - (2 ^ (8 - 1) - 1) - 23) + 23 := by norm_num
  rw [this, zpow_add₀ (by norm_num : (2 : ℝ) ≠ 0)]
  norm_num
  ring

theorem exponentWord : ∀ e : BitVec 8, ((IntOp.shli ArithUnit.vector (e.setWidth 32) 23#32).extractLsb' 31 1 == 1#1) = false
      ∧ ((IntOp.shli ArithUnit.vector (e.setWidth 32) 23#32).extractLsb' 23 8).toNat = e.toNat
      ∧ ((IntOp.shli ArithUnit.vector (e.setWidth 32) 23#32).extractLsb' 0 23).toNat = 0 := by decide +kernel

/-- The kernel's scale: a code put into the exponent field of a word is two to the power of the code less 127, unless the
    code is 0 (the word of zero) or 255 (the word of infinity). -/
theorem ofBits_exponent (e : BitVec 8) (h0 : e ≠ 0) (h1 : e ≠ 255) :
    Ideal.ofBits FTy.f32 (IntOp.shli ArithUnit.vector (e.setWidth 32) 23#32) = scaleVal e := by
  rw [scaleVal_eq]
  obtain ⟨ha, hb, hc⟩ := exponentWord e
  have n0 : e.toNat ≠ 0 := fun h => h0 (BitVec.eq_of_toNat_eq h)
  have n1 : e.toNat ≠ 255 := fun h => h1 (BitVec.eq_of_toNat_eq h)
  generalize IntOp.shli ArithUnit.vector (e.setWidth 32) 23#32 = w at ha hb hc ⊢
  exact ieee_pow w e.toNat ha hb hc n0 n1

/-- Multiplying by a scale distributes over a sum. -/
theorem sum_mul_scale {ι : Type*} (s : Finset ι) (f : ι → EReal) (e : BitVec 8) :
    (∑ i ∈ s, f i) * scaleVal e = ∑ i ∈ s, f i * scaleVal e := by
  have h0 : (0 : EReal) ≤ scaleVal e := by rw [scaleVal_eq]; exact_mod_cast (by positivity)
  have h1 : scaleVal e ≠ ⊤ := by rw [scaleVal_eq]; exact EReal.coe_ne_top _
  classical
  induction s using Finset.induction_on with
  | empty => simp
  | insert a s ha ih =>
    rw [Finset.sum_insert ha, Finset.sum_insert ha, ← ih, EReal.right_distrib_of_nonneg_of_ne_top h0 h1]

end Cert.Value

end
-- ==== Proof.Value.RefSum.lean ====
/- The reference's result at an index: a sum over the 4096 inputs of the activation times its code's value times its
   group's scale. -/
module

public import proofs.«01_k».proof.Proof.Gen.ReferenceIdeal.Read
public import proofs.«01_k».proof.Proof.Value.Spec

@[expose] public section

set_option maxRecDepth 65536

noncomputable section

namespace Cert.ReferenceIdeal.Hand

open Cert.ReferenceIdeal Cert.ReferenceIdeal.Gen Cert.ReferenceIdeal.Read
open Idealize.ShloMosaic Cert.Value

theorem ref_apply (x0 : Vec Ideal S8x1x4096 .bf16) (x1 : Vec Ideal S14336x2048 .i8) (x2 : Vec Ideal S14336x128 .i8)
    (b : Fin 8) (o : Fin 14336) :
    val_main_v46 (F := Ideal) x0 x1 x2 (ix3 b 0 o) = ∑ k : Fin 4096, x0 (ix3 b 0 k)
      * (codeVal (nib (x1 (ix2 o ⟨k.val / 2, by omega⟩)) (k.val % 2)) * scaleVal (x2 (ix2 o ⟨k.val / 32, by omega⟩))) := by
  pointwise [val_main_v0, val_main_c, val_main_v1, val_main_v2, val_main_c_0, val_main_v3, val_main_v4, val_main_v5, val_main_v6, val_main_v7, val_main_v8, val_main_v9, val_main_c_1, val_main_v10, val_main_v11, val_main_v12, val_main_cst, val_main_v13, val_main_v14, val_main_v15, val_main_c_2, val_main_v16, val_main_v17, val_main_c_3, val_main_v18, val_main_v19, val_main_c_4, val_main_v20, val_main_v21, val_main_c_5, val_main_v22, val_main_v23, val_main_c_6, val_main_v24, val_main_v25, val_main_c_7, val_main_v26, val_main_v27, val_main_c_8, val_main_v28, val_main_v29, val_main_c_9, val_main_v30, val_main_v31, val_main_cst_10, val_main_cst_11, val_main_call0_v0, val_main_call0_v1, val_main_v32, val_main_cst_12, val_main_cst_13, val_main_call1_v0, val_main_call1_v1, val_main_v33, val_main_v34, val_main_cst_14, val_main_cst_15, val_main_call3_v0, val_main_call3_v1, val_main_v35, val_main_cst_16, val_main_cst_17, val_main_call4_v0, val_main_call4_v1, val_main_v36, val_main_v37, val_main_v38, val_main_v39, val_main_v40, val_main_v41, val_main_v42, val_main_v43, val_main_v44, val_main_v45, val_main_v46]
  refine Finset.sum_congr rfl fun k _ => ?_
  have hi : (⟨k.val / 32 * 16 + k.val % 32 / 2, by omega⟩ : Fin 2048) = ⟨k.val / 2, by omega⟩ := Fin.ext (by show k.val / 32 * 16 + k.val % 32 / 2 = k.val / 2; omega)
  have hp : k.val % 32 % 2 = k.val % 2 := by omega
  simp only [hi, hp]
  rfl

end Cert.ReferenceIdeal.Hand

end
-- ==== Proof.Value.Tile.lean ====
/- The value one trip stores, written as 16 equal steps: each step decodes one tile of the chunk's codes, multiplies the
   masked activations with it, and adds the eight products of the tile's groups, each times its group's scales. -/
module

public import proofs.«01_k».proof.Proof.Ideal.Trip

@[expose] public section

set_option maxRecDepth 65536
set_option maxHeartbeats 0

noncomputable section

namespace Cert.KernelIdeal.Hand

open Cert.KernelIdeal Cert.KernelIdeal.Gen
open Idealize.ShloMosaic Idealize.ShloMosaic.TcCoe

variable {F : FTy → Type} [FloatOps F]

/-- The product of one tile: the masked activations times the tile's decoded codes. -/
def tileProd (wv : Vec F S512x128 .i8) (xv : Vec F S1x64x256 .bf16) : FVec F S64x512 .f32 :=
  k0_pay9 (k0_pay5 wv) (k0_pay7 wv) (k0_pay8 wv) xv

/-- The eight rows of a tile's product that belong to one group, times the group's scales. -/
def groupTimes (n : ℕ) (h : S64x512.Slices ![n, 0] S8x512) (p : FVec F S64x512 .f32) (s : Vec F S1x512 .f32) : FVec F S8x512 .f32 :=
  mulf (extractStridedSlice S8x512 ![n, 0] p h) (broadcastTo S8x512 s broadcasts_S1x512_S8x512)

/-- A tile's eight groups added onto what was summed before. -/
def tileAdd (acc : FVec F S8x512 .f32) (p : FVec F S64x512 .f32) (s0 s1 s2 s3 s4 s5 s6 s7 : Vec F S1x512 .f32) : FVec F S8x512 .f32 :=
  addf (addf (addf (addf (addf (addf (addf (addf acc
    (groupTimes 0 slices_S64x512_o0_0_S8x512 p s0)) (groupTimes 8 slices_S64x512_o8_0_S8x512 p s1))
    (groupTimes 16 slices_S64x512_o16_0_S8x512 p s2)) (groupTimes 24 slices_S64x512_o24_0_S8x512 p s3))
    (groupTimes 32 slices_S64x512_o32_0_S8x512 p s4)) (groupTimes 40 slices_S64x512_o40_0_S8x512 p s5))
    (groupTimes 48 slices_S64x512_o48_0_S8x512 p s6)) (groupTimes 56 slices_S64x512_o56_0_S8x512 p s7)

/-- What a load of a tile of the chunk's codes reads. -/
def codesRead (c : Dev nD) (fw : BufOf (F := F) c wbM) (off : Fin 2 → ℕ) (h : ∀ a, off a + S512x128.size a ≤ S14336x2048.size a) :
    Vec F S512x128 .i8 :=
  View.readAt (Elt F) wbM.view (Rect.unit (s := S14336x2048) off S512x128.size h).toLoadRect fw

/-- What a load of one tile's masked activations reads. -/
def actsRead (c : Dev nD) (fx : BufOf (F := F) c xmM) (t : ℕ) (h : ∀ a, ![t, 0, 0] a + S1x64x256.size a ≤ S16x64x256.size a) :
    Vec F S1x64x256 .bf16 :=
  View.readAt (Elt F) xmM.view (Rect.unit (s := S16x64x256) ![t, 0, 0] S1x64x256.size h).toLoadRect fx

/-- The chunk's scales as floats, one row per group of 32 inputs. -/
def scalesAt (c : Dev nD) (k : Chunk) (fs : BufOf (F := F) c sbM) : FVec F S128x512 .f32 :=
  k0_pay3 (View.readAt (Elt F) sbM.view (Rect.unit (s := S14336x128) (k0_off3 k) S512x128.size (k0_off3_inb k)).toLoadRect fs)

/-- One group's row of the scales, as the trip reads it back. -/
def scaleRow (c : Dev nD) (k : Chunk) (fs : BufOf (F := F) c sbM) (n : ℕ) (h : ∀ a, ![n, 0] a + S1x512.size a ≤ S128x512.size a) : Vec F S1x512 .f32 :=
  scM.view.readCov [⟨Rect.unit (s := S128x512) ![0, 0] S128x512.size inb_S128x512_S128x512_0_0, scalesAt c k fs⟩] (Rect.unit (s := S128x512) ![n, 0] S1x512.size h).toLoadRect

theorem acc_0 (c : Dev nD) (k : Chunk) (fw : BufOf (F := F) c wbM) (fs : BufOf (F := F) c sbM) (fx : BufOf (F := F) c xmM) :
    tripRun.sl.r_6 c k fw fs fx = tileAdd k0_pay4 (tileProd (codesRead c fw (k0_off4 k) (k0_off4_inb k)) (actsRead c fx 0 inb_S16x64x256_S1x64x256_0_0_0))
      (scaleRow c k fs 0 inb_S128x512_S1x512_0_0) (scaleRow c k fs 1 inb_S128x512_S1x512_1_0) (scaleRow c k fs 2 inb_S128x512_S1x512_2_0) (scaleRow c k fs 3 inb_S128x512_S1x512_3_0) (scaleRow c k fs 4 inb_S128x512_S1x512_4_0) (scaleRow c k fs 5 inb_S128x512_S1x512_5_0) (scaleRow c k fs 6 inb_S128x512_S1x512_6_0) (scaleRow c k fs 7 inb_S128x512_S1x512_7_0) := rfl

theorem acc_1 (c : Dev nD) (k : Chunk) (fw : BufOf (F := F) c wbM) (fs : BufOf (F := F) c sbM) (fx : BufOf (F := F) c xmM) :
    tripRun.sl.r_12 c k fw fs fx = tileAdd (tripRun.sl.r_6 c k fw fs fx) (tileProd (codesRead c fw (k0_off5 k) (k0_off5_inb k)) (actsRead c fx 1 inb_S16x64x256_S1x64x256_1_0_0))
      (scaleRow c k fs 8 inb_S128x512_S1x512_8_0) (scaleRow c k fs 9 inb_S128x512_S1x512_9_0) (scaleRow c k fs 10 inb_S128x512_S1x512_10_0) (scaleRow c k fs 11 inb_S128x512_S1x512_11_0) (scaleRow c k fs 12 inb_S128x512_S1x512_12_0) (scaleRow c k fs 13 inb_S128x512_S1x512_13_0) (scaleRow c k fs 14 inb_S128x512_S1x512_14_0) (scaleRow c k fs 15 inb_S128x512_S1x512_15_0) := rfl

theorem acc_2 (c : Dev nD) (k : Chunk) (fw : BufOf (F := F) c wbM) (fs : BufOf (F := F) c sbM) (fx : BufOf (F := F) c xmM) :
    tripRun.sl.r_21 c k fw fs fx = tileAdd (tripRun.sl.r_12 c k fw fs fx) (tileProd (codesRead c fw (k0_off6 k) (k0_off6_inb k)) (actsRead c fx 2 inb_S16x64x256_S1x64x256_2_0_0))
      (scaleRow c k fs 16 inb_S128x512_S1x512_16_0) (scaleRow c k fs 17 inb_S128x512_S1x512_17_0) (scaleRow c k fs 18 inb_S128x512_S1x512_18_0) (scaleRow c k fs 19 inb_S128x512_S1x512_19_0) (scaleRow c k fs 20 inb_S128x512_S1x512_20_0) (scaleRow c k fs 21 inb_S128x512_S1x512_21_0) (scaleRow c k fs 22 inb_S128x512_S1x512_22_0) (scaleRow c k fs 23 inb_S128x512_S1x512_23_0) := rfl

theorem acc_3 (c : Dev nD) (k : Chunk) (fw : BufOf (F := F) c wbM) (fs : BufOf (F := F) c sbM) (fx : BufOf (F := F) c xmM) :
    tripRun.sl.r_27 c k fw fs fx = tileAdd (tripRun.sl.r_21 c k fw fs fx) (tileProd (codesRead c fw (k0_off7 k) (k0_off7_inb k)) (actsRead c fx 3 inb_S16x64x256_S1x64x256_3_0_0))
      (scaleRow c k fs 24 inb_S128x512_S1x512_24_0) (scaleRow c k fs 25 inb_S128x512_S1x512_25_0) (scaleRow c k fs 26 inb_S128x512_S1x512_26_0) (scaleRow c k fs 27 inb_S128x512_S1x512_27_0) (scaleRow c k fs 28 inb_S128x512_S1x512_28_0) (scaleRow c k fs 29 inb_S128x512_S1x512_29_0) (scaleRow c k fs 30 inb_S128x512_S1x512_30_0) (scaleRow c k fs 31 inb_S128x512_S1x512_31_0) := rfl

theorem acc_4 (c : Dev nD) (k : Chunk) (fw : BufOf (F := F) c wbM) (fs : BufOf (F := F) c sbM) (fx : BufOf (F := F) c xmM) :
    tripRun.sl.r_30 c k fw fs fx = tileAdd (tripRun.sl.r_27 c k fw fs fx) (tileProd (codesRead c fw (k0_off8 k) (k0_off8_inb k)) (actsRead c fx 4 inb_S16x64x256_S1x64x256_4_0_0))
      (scaleRow c k fs 32 inb_S128x512_S1x512_32_0) (scaleRow c k fs 33 inb_S128x512_S1x512_33_0) (scaleRow c k fs 34 inb_S128x512_S1x512_34_0) (scaleRow c k fs 35 inb_S128x512_S1x512_35_0) (scaleRow c k fs 36 inb_S128x512_S1x512_36_0) (scaleRow c k fs 37 inb_S128x512_S1x512_37_0) (scaleRow c k fs 38 inb_S128x512_S1x512_38_0) (scaleRow c k fs 39 inb_S128x512_S1x512_39_0) := rfl

theorem acc_5 (c : Dev nD) (k : Chunk) (fw : BufOf (F := F) c wbM) (fs : BufOf (F := F) c sbM) (fx : BufOf (F := F) c xmM) :
    tripRun.sl.r_33 c k fw fs fx = tileAdd (tripRun.sl.r_30 c k fw fs fx) (tileProd (codesRead c fw (k0_off9 k) (k0_off9_inb k)) (actsRead c fx 5 inb_S16x64x256_S1x64x256_5_0_0))
      (scaleRow c k fs 40 inb_S128x512_S1x512_40_0) (scaleRow c k fs 41 inb_S128x512_S1x512_41_0) (scaleRow c k fs 42 inb_S128x512_S1x512_42_0) (scaleRow c k fs 43 inb_S128x512_S1x512_43_0) (scaleRow c k fs 44 inb_S128x512_S1x512_44_0) (scaleRow c k fs 45 inb_S128x512_S1x512_45_0) (scaleRow c k fs 46 inb_S128x512_S1x512_46_0) (scaleRow c k fs 47 inb_S128x512_S1x512_47_0) := rfl

theorem acc_6 (c : Dev nD) (k : Chunk) (fw : BufOf (F := F) c wbM) (fs : BufOf (F := F) c sbM) (fx : BufOf (F := F) c xmM) :
    tripRun.sl.r_40 c k fw fs fx = tileAdd (tripRun.sl.r_33 c k fw fs fx) (tileProd (codesRead c fw (k0_off10 k) (k0_off10_inb k)) (actsRead c fx 6 inb_S16x64x256_S1x64x256_6_0_0))
      (scaleRow c k fs 48 inb_S128x512_S1x512_48_0) (scaleRow c k fs 49 inb_S128x512_S1x512_49_0) (scaleRow c k fs 50 inb_S128x512_S1x512_50_0) (scaleRow c k fs 51 inb_S128x512_S1x512_51_0) (scaleRow c k fs 52 inb_S128x512_S1x512_52_0) (scaleRow c k fs 53 inb_S128x512_S1x512_53_0) (scaleRow c k fs 54 inb_S128x512_S1x512_54_0) (scaleRow c k fs 55 inb_S128x512_S1x512_55_0) := rfl

theorem acc_7 (c : Dev nD) (k : Chunk) (fw : BufOf (F := F) c wbM) (fs : BufOf (F := F) c sbM) (fx : BufOf (F := F) c xmM) :
    tripRun.sl.r_49 c k fw fs fx = tileAdd (tripRun.sl.r_40 c k fw fs fx) (tileProd (codesRead c fw (k0_off11 k) (k0_off11_inb k)) (actsRead c fx 7 inb_S16x64x256_S1x64x256_7_0_0))
      (scaleRow c k fs 56 inb_S128x512_S1x512_56_0) (scaleRow c k fs 57 inb_S128x512_S1x512_57_0) (scaleRow c k fs 58 inb_S128x512_S1x512_58_0) (scaleRow c k fs 59 inb_S128x512_S1x512_59_0) (scaleRow c k fs 60 inb_S128x512_S1x512_60_0) (scaleRow c k fs 61 inb_S128x512_S1x512_61_0) (scaleRow c k fs 62 inb_S128x512_S1x512_62_0) (scaleRow c k fs 63 inb_S128x512_S1x512_63_0) := rfl

theorem acc_8 (c : Dev nD) (k : Chunk) (fw : BufOf (F := F) c wbM) (fs : BufOf (F := F) c sbM) (fx : BufOf (F := F) c xmM) :
    tripRun.sl.r_57 c k fw fs fx = tileAdd (tripRun.sl.r_49 c k fw fs fx) (tileProd (codesRead c fw (k0_off12 k) (k0_off12_inb k)) (actsRead c fx 8 inb_S16x64x256_S1x64x256_8_0_0))
      (scaleRow c k fs 64 inb_S128x512_S1x512_64_0) (scaleRow c k fs 65 inb_S128x512_S1x512_65_0) (scaleRow c k fs 66 inb_S128x512_S1x512_66_0) (scaleRow c k fs 67 inb_S128x512_S1x512_67_0) (scaleRow c k fs 68 inb_S128x512_S1x512_68_0) (scaleRow c k fs 69 inb_S128x512_S1x512_69_0) (scaleRow c k fs 70 inb_S128x512_S1x512_70_0) (scaleRow c k fs 71 inb_S128x512_S1x512_71_0) := rfl

theorem acc_9 (c : Dev nD) (k : Chunk) (fw : BufOf (F := F) c wbM) (fs : BufOf (F := F) c sbM) (fx : BufOf (F := F) c xmM) :
    tripRun.sl.r_64 c k fw fs fx = tileAdd (tripRun.sl.r_57 c k fw fs fx) (tileProd (codesRead c fw (k0_off13 k) (k0_off13_inb k)) (actsRead c fx 9 inb_S16x64x256_S1x64x256_9_0_0))
      (scaleRow c k fs 72 inb_S128x512_S1x512_72_0) (scaleRow c k fs 73 inb_S128x512_S1x512_73_0) (scaleRow c k fs 74 inb_S128x512_S1x512_74_0) (scaleRow c k fs 75 inb_S128x512_S1x512_75_0) (scaleRow c k fs 76 inb_S128x512_S1x512_76_0) (scaleRow c k fs 77 inb_S128x512_S1x512_77_0) (scaleRow c k fs 78 inb_S128x512_S1x512_78_0) (scaleRow c k fs 79 inb_S128x512_S1x512_79_0) := rfl

theorem acc_10 (c : Dev nD) (k : Chunk) (fw : BufOf (F := F) c wbM) (fs : BufOf (F := F) c sbM) (fx : BufOf (F := F) c xmM) :
    tripRun.sl.r_71 c k fw fs fx = tileAdd (tripRun.sl.r_64 c k fw fs fx) (tileProd (codesRead c fw (k0_off14 k) (k0_off14_inb k)) (actsRead c fx 10 inb_S16x64x256_S1x64x256_10_0_0))
      (scaleRow c k fs 80 inb_S128x512_S1x512_80_0) (scaleRow c k fs 81 inb_S128x512_S1x512_81_0) (scaleRow c k fs 82 inb_S128x512_S1x512_82_0) (scaleRow c k fs 83 inb_S128x512_S1x512_83_0) (scaleRow c k fs 84 inb_S128x512_S1x512_84_0) (scaleRow c k fs 85 inb_S128x512_S1x512_85_0) (scaleRow c k fs 86 inb_S128x512_S1x512_86_0) (scaleRow c k fs 87 inb_S128x512_S1x512_87_0) := rfl

theorem acc_11 (c : Dev nD) (k : Chunk) (fw : BufOf (F := F) c wbM) (fs : BufOf (F := F) c sbM) (fx : BufOf (F := F) c xmM) :
    tripRun.sl.r_77 c k fw fs fx = tileAdd (tripRun.sl.r_71 c k fw fs fx) (tileProd (codesRead c fw (k0_off15 k) (k0_off15_inb k)) (actsRead c fx 11 inb_S16x64x256_S1x64x256_11_0_0))
      (scaleRow c k fs 88 inb_S128x512_S1x512_88_0) (scaleRow c k fs 89 inb_S128x512_S1x512_89_0) (scaleRow c k fs 90 inb_S128x512_S1x512_90_0) (scaleRow c k fs 91 inb_S128x512_S1x512_91_0) (scaleRow c k fs 92 inb_S128x512_S1x512_92_0) (scaleRow c k fs 93 inb_S128x512_S1x512_93_0) (scaleRow c k fs 94 inb_S128x512_S1x512_94_0) (scaleRow c k fs 95 inb_S128x512_S1x512_95_0) := rfl

theorem acc_12 (c : Dev nD) (k : Chunk) (fw : BufOf (F := F) c wbM) (fs : BufOf (F := F) c sbM) (fx : BufOf (F := F) c xmM) :
    tripRun.sl.r_86 c k fw fs fx = tileAdd (tripRun.sl.r_77 c k fw fs fx) (tileProd (codesRead c fw (k0_off16 k) (k0_off16_inb k)) (actsRead c fx 12 inb_S16x64x256_S1x64x256_12_0_0))
      (scaleRow c k fs 96 inb_S128x512_S1x512_96_0) (scaleRow c k fs 97 inb_S128x512_S1x512_97_0) (scaleRow c k fs 98 inb_S128x512_S1x512_98_0) (scaleRow c k fs 99 inb_S128x512_S1x512_99_0) (scaleRow c k fs 100 inb_S128x512_S1x512_100_0) (scaleRow c k fs 101 inb_S128x512_S1x512_101_0) (scaleRow c k fs 102 inb_S128x512_S1x512_102_0) (scaleRow c k fs 103 inb_S128x512_S1x512_103_0) := rfl

theorem acc_13 (c : Dev nD) (k : Chunk) (fw : BufOf (F := F) c wbM) (fs : BufOf (F := F) c sbM) (fx : BufOf (F := F) c xmM) :
    tripRun.sl.r_92 c k fw fs fx = tileAdd (tripRun.sl.r_86 c k fw fs fx) (tileProd (codesRead c fw (k0_off17 k) (k0_off17_inb k)) (actsRead c fx 13 inb_S16x64x256_S1x64x256_13_0_0))
      (scaleRow c k fs 104 inb_S128x512_S1x512_104_0) (scaleRow c k fs 105 inb_S128x512_S1x512_105_0) (scaleRow c k fs 106 inb_S128x512_S1x512_106_0) (scaleRow c k fs 107 inb_S128x512_S1x512_107_0) (scaleRow c k fs 108 inb_S128x512_S1x512_108_0) (scaleRow c k fs 109 inb_S128x512_S1x512_109_0) (scaleRow c k fs 110 inb_S128x512_S1x512_110_0) (scaleRow c k fs 111 inb_S128x512_S1x512_111_0) := rfl

theorem acc_14 (c : Dev nD) (k : Chunk) (fw : BufOf (F := F) c wbM) (fs : BufOf (F := F) c sbM) (fx : BufOf (F := F) c xmM) :
    tripRun.sl.r_95 c k fw fs fx = tileAdd (tripRun.sl.r_92 c k fw fs fx) (tileProd (codesRead c fw (k0_off18 k) (k0_off18_inb k)) (actsRead c fx 14 inb_S16x64x256_S1x64x256_14_0_0))
      (scaleRow c k fs 112 inb_S128x512_S1x512_112_0) (scaleRow c k fs 113 inb_S128x512_S1x512_113_0) (scaleRow c k fs 114 inb_S128x512_S1x512_114_0) (scaleRow c k fs 115 inb_S128x512_S1x512_115_0) (scaleRow c k fs 116 inb_S128x512_S1x512_116_0) (scaleRow c k fs 117 inb_S128x512_S1x512_117_0) (scaleRow c k fs 118 inb_S128x512_S1x512_118_0) (scaleRow c k fs 119 inb_S128x512_S1x512_119_0) := rfl

theorem acc_15 (c : Dev nD) (k : Chunk) (fw : BufOf (F := F) c wbM) (fs : BufOf (F := F) c sbM) (fx : BufOf (F := F) c xmM) :
    (tripRun c k fw fs fx).1 = truncf .bf16 (tileAdd (tripRun.sl.r_95 c k fw fs fx) (tileProd (codesRead c fw (k0_off19 k) (k0_off19_inb k)) (actsRead c fx 15 inb_S16x64x256_S1x64x256_15_0_0))
      (scaleRow c k fs 120 inb_S128x512_S1x512_120_0) (scaleRow c k fs 121 inb_S128x512_S1x512_121_0) (scaleRow c k fs 122 inb_S128x512_S1x512_122_0) (scaleRow c k fs 123 inb_S128x512_S1x512_123_0) (scaleRow c k fs 124 inb_S128x512_S1x512_124_0) (scaleRow c k fs 125 inb_S128x512_S1x512_125_0) (scaleRow c k fs 126 inb_S128x512_S1x512_126_0) (scaleRow c k fs 127 inb_S128x512_S1x512_127_0)) bitsLt_bf16_f32 := rfl

end Cert.KernelIdeal.Hand

end
-- ==== Proof.Value.TileValue.lean ====
/- One tile's product at an index, over the extended reals: a sum over the tile's 256 inputs of the masked activation times
   the code's value; and one trip's stored value at an index as the sum of its 128 groups. -/
module

public import proofs.«01_k».proof.Proof.Value.Tile
public import proofs.«01_k».proof.Proof.Value.Spec
public import Idealize.ShloMosaic.Lib.BitcastPair

@[expose] public section

set_option maxRecDepth 65536

noncomputable section

namespace Cert.KernelIdeal.Hand

open Cert.KernelIdeal Cert.KernelIdeal.Gen
open Idealize.ShloMosaic Idealize.ShloMosaic.TcCoe Cert.Value

theorem pairVec_apply (x : IVec S128x512 32) (j : Fin 256) (o : Fin 512) :
    bitcast S256x512 16 x bitcasts_S128x512_w32_S256x512_w16 (ix2 j o)
      = (x (ix2 ⟨j.val / 2, by omega⟩ o)).extractLsb' (16 * (j.val % 2)) 16 := by
  rw [bitcast_32_16]
  refine congrArg (fun i => (x i).extractLsb' (16 * (j.val % 2)) 16) ?_
  funext a
  apply Fin.ext
  match a with
  | 0 => exact Shape.Bitcasts.srcIdx_row _ _ _ _ _ rfl
  | 1 => exact Shape.Bitcasts.srcIdx_other _ _ _ _ _ (by decide)

theorem tileProd_apply (wv : Vec Ideal S512x128 .i8) (xv : Vec Ideal S1x64x256 .bf16) (r : Fin 64) (o : Fin 512) :
    tileProd (F := Ideal) wv xv (ix2 r o)
      = ∑ j : Fin 256, xv (ix3 0 r j) * codeVal (nib (wv (ix2 o ⟨j.val / 2, by omega⟩)) (j.val % 2)) := by
  pointwise [tileProd, k0_pay9, k0_pay5, k0_pay6, k0_pay7, k0_pay8]
  refine Finset.sum_congr rfl fun j _ => congrArg (xv (ix3 0 r j) * ·) ?_
  rw [pairVec_apply]
  pointwise
  have hp := pairWord_bits (wv (ix2 o ⟨j.val / 2, by omega⟩)) ⟨j.val % 2, by omega⟩
  have hc := ofBits_codeBits (wv (ix2 o ⟨j.val / 2, by omega⟩)) ⟨j.val % 2, by omega⟩
  rw [← hc, ← hp]
  rfl

theorem tileAdd_apply (acc : FVec Ideal S8x512 .f32) (p : FVec Ideal S64x512 .f32) (s0 s1 s2 s3 s4 s5 s6 s7 : Vec Ideal S1x512 .f32)
    (b : Fin 8) (o : Fin 512) (s : Fin 8 → Ideal .f32)
    (h0 : s0 (ix2 0 o) = s 0) (h1 : s1 (ix2 0 o) = s 1) (h2 : s2 (ix2 0 o) = s 2) (h3 : s3 (ix2 0 o) = s 3)
    (h4 : s4 (ix2 0 o) = s 4) (h5 : s5 (ix2 0 o) = s 5) (h6 : s6 (ix2 0 o) = s 6) (h7 : s7 (ix2 0 o) = s 7) :
    tileAdd (F := Ideal) acc p s0 s1 s2 s3 s4 s5 s6 s7 (ix2 b o)
      = acc (ix2 b o) + ∑ g : Fin 8, p (ix2 ⟨8 * g.val + b.val, by omega⟩ o) * s g := by
  pointwise [tileAdd, groupTimes]
  rw [h0, h1, h2, h3, h4, h5, h6, h7, Fin.sum_univ_eight]
  have v0 : ((0 : Fin 8) : ℕ) = 0 := rfl
  have v1 : ((1 : Fin 8) : ℕ) = 1 := rfl
  have v2 : ((2 : Fin 8) : ℕ) = 2 := rfl
  have v3 : ((3 : Fin 8) : ℕ) = 3 := rfl
  have v4 : ((4 : Fin 8) : ℕ) = 4 := rfl
  have v5 : ((5 : Fin 8) : ℕ) = 5 := rfl
  have v6 : ((6 : Fin 8) : ℕ) = 6 := rfl
  have v7 : ((7 : Fin 8) : ℕ) = 7 := rfl
  simp only [← add_assoc, v0, v1, v2, v3, v4, v5, v6, v7, Nat.reduceMul, Nat.zero_add, Nat.mul_zero, Nat.mul_one]

/-- A load of a tile of the chunk's codes, at an index. -/
theorem codesRead_apply (c : Dev nD) (fw : BufOf (F := Ideal) c wbM) (k : Chunk) (off : Fin 2 → ℕ)
    (h : ∀ a, off a + S512x128.size a ≤ S14336x2048.size a) (t : Fin 16) (e : off = ![512 * k.val, 128 * t.val]) (o : Fin 512) (q : Fin 128)
    (ho : 512 * k.val + o.val < 14336) :
    codesRead c fw off h (ix2 o q) = fw (ix2 (⟨512 * k.val + o.val, ho⟩ : Fin 14336) (⟨128 * t.val + q.val, by omega⟩ : Fin 2048)) := by
  subst e
  show fw _ = fw _
  congr 1
  funext a
  apply Fin.ext
  match a with
  | 0 => show 512 * k.val + 1 * o.val = 512 * k.val + o.val; omega
  | 1 => show 128 * t.val + 1 * q.val = 128 * t.val + q.val; omega

/-- A load of one tile's masked activations, at an index. -/
theorem actsRead_apply (c : Dev nD) (fx : BufOf (F := Ideal) c xmM) (t : Fin 16)
    (h : ∀ a, ![t.val, 0, 0] a + S1x64x256.size a ≤ S16x64x256.size a) (r : Fin 64) (j : Fin 256) :
    actsRead c fx t.val h (ix3 0 r j) = fx (ix3 t r j) := by
  show fx _ = fx _
  congr 1
  funext a
  apply Fin.ext
  match a with
  | 0 => show t.val + 1 * 0 = t.val; omega
  | 1 => show 0 + 1 * r.val = r.val; omega
  | 2 => show 0 + 1 * j.val = j.val; omega

/-- A load of the chunk's scale codes, at an index. -/
theorem scaleLoad_apply (c : Dev nD) (fs : BufOf (F := Ideal) c sbM) (k : Chunk) (n : Fin 128) (o : Fin 512)
    (ho : 512 * k.val + o.val < 14336) :
    View.readAt (Elt Ideal) sbM.view (Rect.unit (s := S14336x128) (k0_off3 k) S512x128.size (k0_off3_inb k)).toLoadRect fs (ix2 o n)
      = fs (ix2 (⟨512 * k.val + o.val, ho⟩ : Fin 14336) n) := by
  show fs _ = fs _
  congr 1
  have e3 := k0_off3_eq k
  funext a
  apply Fin.ext
  match a with
  | 0 => show k0_off3 k 0 + 1 * o.val = 512 * k.val + o.val; rw [e3]; show 512 * k.val + 1 * o.val = _; omega
  | 1 => show k0_off3 k 1 + 1 * n.val = n.val; rw [e3]; show 0 + 1 * n.val = n.val; omega

/-- A group's row of the scales as the trip reads it back is that row of the scales. -/
theorem scaleRow_row (c : Dev nD) (fs : BufOf (F := Ideal) c sbM) (k : Chunk) (n : ℕ)
    (h : ∀ a, ![n, 0] a + S1x512.size a ≤ S128x512.size a) (hn : n < 128) (o : Fin 512) :
    scaleRow c k fs n h (ix2 0 o) = scalesAt c k fs (ix2 (⟨n, hn⟩ : Fin 128) o) := by
  unfold scaleRow
  generalize scalesAt c k fs = A
  rw [View.readCov_eq_canon']
  have hi : (Rect.unit (s := S128x512) ![n, 0] S1x512.size h).toLoadRect.idx (ix2 (0 : Fin 1) o)
      = (Rect.unit (s := S128x512) ![0, 0] S128x512.size inb_S128x512_S128x512_0_0).emb (ix2 (⟨n, hn⟩ : Fin 128) o) := by
    funext a
    apply Fin.ext
    match a with
    | 0 => show n + 1 * 0 = 0 + 1 * n; omega
    | 1 => rfl
  exact (congrArg (View.canon _) hi).trans (View.canon_cons_emb _ _ _ _)

theorem scales_apply (X : Vec Ideal S512x128 .i8) (n : Fin 128) (o : Fin 512) :
    k0_pay3 (F := Ideal) X (ix2 n o) = Ideal.ofBits FTy.f32 (IntOp.shli ArithUnit.vector ((X (ix2 o n)).setWidth 32) 23#32) := by
  pointwise [k0_pay3]

/-- The scale of a row and group, as the trip reads it back. -/
theorem scaleRow_apply (c : Dev nD) (fs : BufOf (F := Ideal) c sbM) (k : Chunk) (n : ℕ)
    (h : ∀ a, ![n, 0] a + S1x512.size a ≤ S128x512.size a) (hn : n < 128) (o : Fin 512) (ho : 512 * k.val + o.val < 14336) :
    scaleRow c k fs n h (ix2 0 o)
      = Ideal.ofBits FTy.f32 (IntOp.shli ArithUnit.vector ((fs (ix2 (⟨512 * k.val + o.val, ho⟩ : Fin 14336) (⟨n, hn⟩ : Fin 128)) : BitVec 8).setWidth 32) 23#32) := by
  rw [scaleRow_row c fs k n h hn o]
  unfold scalesAt
  rw [scales_apply, scaleLoad_apply c fs k ⟨n, hn⟩ o ho]

end Cert.KernelIdeal.Hand

end
-- ==== Proof.Value.Acts.lean ====
/- The scratch of masked activations, at an index: row `8 g + b` of tile `t` holds batch row `b`'s activations at the tile's
   inputs of group `g`, and zero at its other inputs. -/
module

public import proofs.«01_k».proof.Proof.Value.TileValue
public import proofs.«01_k».proof.Proof.Ideal.Prologue
public import Idealize.ShloMosaic.Lib.Pipeline.ReadBack

@[expose] public section

set_option maxRecDepth 65536

noncomputable section

namespace Cert.KernelIdeal.Hand

open Cert.KernelIdeal Cert.KernelIdeal.Gen
open Idealize.ShloMosaic Idealize.ShloMosaic.TcCoe

variable {F : FTy → Type} [FloatOps F]

/-- What a load of one tile's activations reads. -/
def xRead (c : Dev nD) (arg0 : Memref sig .tc .vmem S8x4096 .bf16) (f0 : BufOf (F := F) c arg0) (n : ℕ)
    (h : ∀ a, ![0, n] a + S8x256.size a ≤ S8x4096.size a) : Vec F S8x256 .bf16 :=
  View.readAt (Elt F) arg0.view (Rect.unit (s := S8x4096) ![0, n] S8x256.size h).toLoadRect f0

/-- The scratch's 16 pieces, the last stored first. -/
def xmPieces (c : Dev nD) (arg0 : Memref sig .tc .vmem S8x4096 .bf16) (f0 : BufOf (F := F) c arg0) :
    List (View.Piece (Elt F) S16x64x256 .bf16) :=
  [⟨Rect.unit (s := S16x64x256) ![15, 0, 0] S1x64x256.size inb_S16x64x256_S1x64x256_15_0_0, k0_pay1 prologueRun.sl.r (xRead c arg0 f0 3840 inb_S8x4096_S8x256_0_3840)⟩,
   ⟨Rect.unit (s := S16x64x256) ![14, 0, 0] S1x64x256.size inb_S16x64x256_S1x64x256_14_0_0, k0_pay1 prologueRun.sl.r (xRead c arg0 f0 3584 inb_S8x4096_S8x256_0_3584)⟩,
   ⟨Rect.unit (s := S16x64x256) ![13, 0, 0] S1x64x256.size inb_S16x64x256_S1x64x256_13_0_0, k0_pay1 prologueRun.sl.r (xRead c arg0 f0 3328 inb_S8x4096_S8x256_0_3328)⟩,
   ⟨Rect.unit (s := S16x64x256) ![12, 0, 0] S1x64x256.size inb_S16x64x256_S1x64x256_12_0_0, k0_pay1 prologueRun.sl.r (xRead c arg0 f0 3072 inb_S8x4096_S8x256_0_3072)⟩,
   ⟨Rect.unit (s := S16x64x256) ![11, 0, 0] S1x64x256.size inb_S16x64x256_S1x64x256_11_0_0, k0_pay1 prologueRun.sl.r (xRead c arg0 f0 2816 inb_S8x4096_S8x256_0_2816)⟩,
   ⟨Rect.unit (s := S16x64x256) ![10, 0, 0] S1x64x256.size inb_S16x64x256_S1x64x256_10_0_0, k0_pay1 prologueRun.sl.r (xRead c arg0 f0 2560 inb_S8x4096_S8x256_0_2560)⟩,
   ⟨Rect.unit (s := S16x64x256) ![9, 0, 0] S1x64x256.size inb_S16x64x256_S1x64x256_9_0_0, k0_pay1 prologueRun.sl.r (xRead c arg0 f0 2304 inb_S8x4096_S8x256_0_2304)⟩,
   ⟨Rect.unit (s := S16x64x256) ![8, 0, 0] S1x64x256.size inb_S16x64x256_S1x64x256_8_0_0, k0_pay1 prologueRun.sl.r (xRead c arg0 f0 2048 inb_S8x4096_S8x256_0_2048)⟩,
   ⟨Rect.unit (s := S16x64x256) ![7, 0, 0] S1x64x256.size inb_S16x64x256_S1x64x256_7_0_0, k0_pay1 prologueRun.sl.r (xRead c arg0 f0 1792 inb_S8x4096_S8x256_0_1792)⟩,
   ⟨Rect.unit (s := S16x64x256) ![6, 0, 0] S1x64x256.size inb_S16x64x256_S1x64x256_6_0_0, k0_pay1 prologueRun.sl.r (xRead c arg0 f0 1536 inb_S8x4096_S8x256_0_1536)⟩,
   ⟨Rect.unit (s := S16x64x256) ![5, 0, 0] S1x64x256.size inb_S16x64x256_S1x64x256_5_0_0, k0_pay1 prologueRun.sl.r (xRead c arg0 f0 1280 inb_S8x4096_S8x256_0_1280)⟩,
   ⟨Rect.unit (s := S16x64x256) ![4, 0, 0] S1x64x256.size inb_S16x64x256_S1x64x256_4_0_0, k0_pay1 prologueRun.sl.r (xRead c arg0 f0 1024 inb_S8x4096_S8x256_0_1024)⟩,
   ⟨Rect.unit (s := S16x64x256) ![3, 0, 0] S1x64x256.size inb_S16x64x256_S1x64x256_3_0_0, k0_pay1 prologueRun.sl.r (xRead c arg0 f0 768 inb_S8x4096_S8x256_0_768)⟩,
   ⟨Rect.unit (s := S16x64x256) ![2, 0, 0] S1x64x256.size inb_S16x64x256_S1x64x256_2_0_0, k0_pay1 prologueRun.sl.r (xRead c arg0 f0 512 inb_S8x4096_S8x256_0_512)⟩,
   ⟨Rect.unit (s := S16x64x256) ![1, 0, 0] S1x64x256.size inb_S16x64x256_S1x64x256_1_0_0, k0_pay1 prologueRun.sl.r (xRead c arg0 f0 256 inb_S8x4096_S8x256_0_256)⟩,
   ⟨Rect.unit (s := S16x64x256) ![0, 0, 0] S1x64x256.size inb_S16x64x256_S1x64x256_0_0_0, k0_pay1 prologueRun.sl.r (xRead c arg0 f0 0 inb_S8x4096_S8x256_0_0)⟩]

set_option maxHeartbeats 0 in
theorem prologue_pieces (c : Dev nD) (arg0 : Memref sig .tc .vmem S8x4096 .bf16) (harg0 : arg0.IsWhole) (f0 : BufOf (F := F) c arg0) :
    (prologueRun (F := F) c arg0 harg0 f0).1 = xmM.view.writes (Elt F) xmM.view.junk (xmPieces c arg0 f0) := rfl

theorem xm_0 (c : Dev nD) (arg0 : Memref sig .tc .vmem S8x4096 .bf16) (harg0 : arg0.IsWhole) (f0 : BufOf (F := Ideal) c arg0) :
    actsRead c (prologueRun (F := Ideal) c arg0 harg0 f0).1 0 inb_S16x64x256_S1x64x256_0_0_0
      = k0_pay1 prologueRun.sl.r (xRead c arg0 f0 0 inb_S8x4096_S8x256_0_0) := by
  rw [prologue_pieces]
  show xmM.view.readCov (xmPieces c arg0 f0) (Rect.unit (s := S16x64x256) ![0, 0, 0] S1x64x256.size inb_S16x64x256_S1x64x256_0_0_0).toLoadRect = _
  unfold xmPieces
  simp (disch := decide) only [↓ View.readCov_skip, ↓ View.readCov_cons_toLoadRect]

theorem xm_1 (c : Dev nD) (arg0 : Memref sig .tc .vmem S8x4096 .bf16) (harg0 : arg0.IsWhole) (f0 : BufOf (F := Ideal) c arg0) :
    actsRead c (prologueRun (F := Ideal) c arg0 harg0 f0).1 1 inb_S16x64x256_S1x64x256_1_0_0
      = k0_pay1 prologueRun.sl.r (xRead c arg0 f0 256 inb_S8x4096_S8x256_0_256) := by
  rw [prologue_pieces]
  show xmM.view.readCov (xmPieces c arg0 f0) (Rect.unit (s := S16x64x256) ![1, 0, 0] S1x64x256.size inb_S16x64x256_S1x64x256_1_0_0).toLoadRect = _
  unfold xmPieces
  simp (disch := decide) only [↓ View.readCov_skip, ↓ View.readCov_cons_toLoadRect]

theorem xm_2 (c : Dev nD) (arg0 : Memref sig .tc .vmem S8x4096 .bf16) (harg0 : arg0.IsWhole) (f0 : BufOf (F := Ideal) c arg0) :
    actsRead c (prologueRun (F := Ideal) c arg0 harg0 f0).1 2 inb_S16x64x256_S1x64x256_2_0_0
      = k0_pay1 prologueRun.sl.r (xRead c arg0 f0 512 inb_S8x4096_S8x256_0_512) := by
  rw [prologue_pieces]
  show xmM.view.readCov (xmPieces c arg0 f0) (Rect.unit (s := S16x64x256) ![2, 0, 0] S1x64x256.size inb_S16x64x256_S1x64x256_2_0_0).toLoadRect = _
  unfold xmPieces
  simp (disch := decide) only [↓ View.readCov_skip, ↓ View.readCov_cons_toLoadRect]

theorem xm_3 (c : Dev nD) (arg0 : Memref sig .tc .vmem S8x4096 .bf16) (harg0 : arg0.IsWhole) (f0 : BufOf (F := Ideal) c arg0) :
    actsRead c (prologueRun (F := Ideal) c arg0 harg0 f0).1 3 inb_S16x64x256_S1x64x256_3_0_0
      = k0_pay1 prologueRun.sl.r (xRead c arg0 f0 768 inb_S8x4096_S8x256_0_768) := by
  rw [prologue_pieces]
  show xmM.view.readCov (xmPieces c arg0 f0) (Rect.unit (s := S16x64x256) ![3, 0, 0] S1x64x256.size inb_S16x64x256_S1x64x256_3_0_0).toLoadRect = _
  unfold xmPieces
  simp (disch := decide) only [↓ View.readCov_skip, ↓ View.readCov_cons_toLoadRect]

theorem xm_4 (c : Dev nD) (arg0 : Memref sig .tc .vmem S8x4096 .bf16) (harg0 : arg0.IsWhole) (f0 : BufOf (F := Ideal) c arg0) :
    actsRead c (prologueRun (F := Ideal) c arg0 harg0 f0).1 4 inb_S16x64x256_S1x64x256_4_0_0
      = k0_pay1 prologueRun.sl.r (xRead c arg0 f0 1024 inb_S8x4096_S8x256_0_1024) := by
  rw [prologue_pieces]
  show xmM.view.readCov (xmPieces c arg0 f0) (Rect.unit (s := S16x64x256) ![4, 0, 0] S1x64x256.size inb_S16x64x256_S1x64x256_4_0_0).toLoadRect = _
  unfold xmPieces
  simp (disch := decide) only [↓ View.readCov_skip, ↓ View.readCov_cons_toLoadRect]

theorem xm_5 (c : Dev nD) (arg0 : Memref sig .tc .vmem S8x4096 .bf16) (harg0 : arg0.IsWhole) (f0 : BufOf (F := Ideal) c arg0) :
    actsRead c (prologueRun (F := Ideal) c arg0 harg0 f0).1 5 inb_S16x64x256_S1x64x256_5_0_0
      = k0_pay1 prologueRun.sl.r (xRead c arg0 f0 1280 inb_S8x4096_S8x256_0_1280) := by
  rw [prologue_pieces]
  show xmM.view.readCov (xmPieces c arg0 f0) (Rect.unit (s := S16x64x256) ![5, 0, 0] S1x64x256.size inb_S16x64x256_S1x64x256_5_0_0).toLoadRect = _
  unfold xmPieces
  simp (disch := decide) only [↓ View.readCov_skip, ↓ View.readCov_cons_toLoadRect]

theorem xm_6 (c : Dev nD) (arg0 : Memref sig .tc .vmem S8x4096 .bf16) (harg0 : arg0.IsWhole) (f0 : BufOf (F := Ideal) c arg0) :
    actsRead c (prologueRun (F := Ideal) c arg0 harg0 f0).1 6 inb_S16x64x256_S1x64x256_6_0_0
      = k0_pay1 prologueRun.sl.r (xRead c arg0 f0 1536 inb_S8x4096_S8x256_0_1536) := by
  rw [prologue_pieces]
  show xmM.view.readCov (xmPieces c arg0 f0) (Rect.unit (s := S16x64x256) ![6, 0, 0] S1x64x256.size inb_S16x64x256_S1x64x256_6_0_0).toLoadRect = _
  unfold xmPieces
  simp (disch := decide) only [↓ View.readCov_skip, ↓ View.readCov_cons_toLoadRect]

theorem xm_7 (c : Dev nD) (arg0 : Memref sig .tc .vmem S8x4096 .bf16) (harg0 : arg0.IsWhole) (f0 : BufOf (F := Ideal) c arg0) :
    actsRead c (prologueRun (F := Ideal) c arg0 harg0 f0).1 7 inb_S16x64x256_S1x64x256_7_0_0
      = k0_pay1 prologueRun.sl.r (xRead c arg0 f0 1792 inb_S8x4096_S8x256_0_1792) := by
  rw [prologue_pieces]
  show xmM.view.readCov (xmPieces c arg0 f0) (Rect.unit (s := S16x64x256) ![7, 0, 0] S1x64x256.size inb_S16x64x256_S1x64x256_7_0_0).toLoadRect = _
  unfold xmPieces
  simp (disch := decide) only [↓ View.readCov_skip, ↓ View.readCov_cons_toLoadRect]

theorem xm_8 (c : Dev nD) (arg0 : Memref sig .tc .vmem S8x4096 .bf16) (harg0 : arg0.IsWhole) (f0 : BufOf (F := Ideal) c arg0) :
    actsRead c (prologueRun (F := Ideal) c arg0 harg0 f0).1 8 inb_S16x64x256_S1x64x256_8_0_0
      = k0_pay1 prologueRun.sl.r (xRead c arg0 f0 2048 inb_S8x4096_S8x256_0_2048) := by
  rw [prologue_pieces]
  show xmM.view.readCov (xmPieces c arg0 f0) (Rect.unit (s := S16x64x256) ![8, 0, 0] S1x64x256.size inb_S16x64x256_S1x64x256_8_0_0).toLoadRect = _
  unfold xmPieces
  simp (disch := decide) only [↓ View.readCov_skip, ↓ View.readCov_cons_toLoadRect]

theorem xm_9 (c : Dev nD) (arg0 : Memref sig .tc .vmem S8x4096 .bf16) (harg0 : arg0.IsWhole) (f0 : BufOf (F := Ideal) c arg0) :
    actsRead c (prologueRun (F := Ideal) c arg0 harg0 f0).1 9 inb_S16x64x256_S1x64x256_9_0_0
      = k0_pay1 prologueRun.sl.r (xRead c arg0 f0 2304 inb_S8x4096_S8x256_0_2304) := by
  rw [prologue_pieces]
  show xmM.view.readCov (xmPieces c arg0 f0) (Rect.unit (s := S16x64x256) ![9, 0, 0] S1x64x256.size inb_S16x64x256_S1x64x256_9_0_0).toLoadRect = _
  unfold xmPieces
  simp (disch := decide) only [↓ View.readCov_skip, ↓ View.readCov_cons_toLoadRect]

theorem xm_10 (c : Dev nD) (arg0 : Memref sig .tc .vmem S8x4096 .bf16) (harg0 : arg0.IsWhole) (f0 : BufOf (F := Ideal) c arg0) :
    actsRead c (prologueRun (F := Ideal) c arg0 harg0 f0).1 10 inb_S16x64x256_S1x64x256_10_0_0
      = k0_pay1 prologueRun.sl.r (xRead c arg0 f0 2560 inb_S8x4096_S8x256_0_2560) := by
  rw [prologue_pieces]
  show xmM.view.readCov (xmPieces c arg0 f0) (Rect.unit (s := S16x64x256) ![10, 0, 0] S1x64x256.size inb_S16x64x256_S1x64x256_10_0_0).toLoadRect = _
  unfold xmPieces
  simp (disch := decide) only [↓ View.readCov_skip, ↓ View.readCov_cons_toLoadRect]

theorem xm_11 (c : Dev nD) (arg0 : Memref sig .tc .vmem S8x4096 .bf16) (harg0 : arg0.IsWhole) (f0 : BufOf (F := Ideal) c arg0) :
    actsRead c (prologueRun (F := Ideal) c arg0 harg0 f0).1 11 inb_S16x64x256_S1x64x256_11_0_0
      = k0_pay1 prologueRun.sl.r (xRead c arg0 f0 2816 inb_S8x4096_S8x256_0_2816) := by
  rw [prologue_pieces]
  show xmM.view.readCov (xmPieces c arg0 f0) (Rect.unit (s := S16x64x256) ![11, 0, 0] S1x64x256.size inb_S16x64x256_S1x64x256_11_0_0).toLoadRect = _
  unfold xmPieces
  simp (disch := decide) only [↓ View.readCov_skip, ↓ View.readCov_cons_toLoadRect]

theorem xm_12 (c : Dev nD) (arg0 : Memref sig .tc .vmem S8x4096 .bf16) (harg0 : arg0.IsWhole) (f0 : BufOf (F := Ideal) c arg0) :
    actsRead c (prologueRun (F := Ideal) c arg0 harg0 f0).1 12 inb_S16x64x256_S1x64x256_12_0_0
      = k0_pay1 prologueRun.sl.r (xRead c arg0 f0 3072 inb_S8x4096_S8x256_0_3072) := by
  rw [prologue_pieces]
  show xmM.view.readCov (xmPieces c arg0 f0) (Rect.unit (s := S16x64x256) ![12, 0, 0] S1x64x256.size inb_S16x64x256_S1x64x256_12_0_0).toLoadRect = _
  unfold xmPieces
  simp (disch := decide) only [↓ View.readCov_skip, ↓ View.readCov_cons_toLoadRect]

theorem xm_13 (c : Dev nD) (arg0 : Memref sig .tc .vmem S8x4096 .bf16) (harg0 : arg0.IsWhole) (f0 : BufOf (F := Ideal) c arg0) :
    actsRead c (prologueRun (F := Ideal) c arg0 harg0 f0).1 13 inb_S16x64x256_S1x64x256_13_0_0
      = k0_pay1 prologueRun.sl.r (xRead c arg0 f0 3328 inb_S8x4096_S8x256_0_3328) := by
  rw [prologue_pieces]
  show xmM.view.readCov (xmPieces c arg0 f0) (Rect.unit (s := S16x64x256) ![13, 0, 0] S1x64x256.size inb_S16x64x256_S1x64x256_13_0_0).toLoadRect = _
  unfold xmPieces
  simp (disch := decide) only [↓ View.readCov_skip, ↓ View.readCov_cons_toLoadRect]

theorem xm_14 (c : Dev nD) (arg0 : Memref sig .tc .vmem S8x4096 .bf16) (harg0 : arg0.IsWhole) (f0 : BufOf (F := Ideal) c arg0) :
    actsRead c (prologueRun (F := Ideal) c arg0 harg0 f0).1 14 inb_S16x64x256_S1x64x256_14_0_0
      = k0_pay1 prologueRun.sl.r (xRead c arg0 f0 3584 inb_S8x4096_S8x256_0_3584) := by
  rw [prologue_pieces]
  show xmM.view.readCov (xmPieces c arg0 f0) (Rect.unit (s := S16x64x256) ![14, 0, 0] S1x64x256.size inb_S16x64x256_S1x64x256_14_0_0).toLoadRect = _
  unfold xmPieces
  simp (disch := decide) only [↓ View.readCov_skip, ↓ View.readCov_cons_toLoadRect]

theorem xm_15 (c : Dev nD) (arg0 : Memref sig .tc .vmem S8x4096 .bf16) (harg0 : arg0.IsWhole) (f0 : BufOf (F := Ideal) c arg0) :
    actsRead c (prologueRun (F := Ideal) c arg0 harg0 f0).1 15 inb_S16x64x256_S1x64x256_15_0_0
      = k0_pay1 prologueRun.sl.r (xRead c arg0 f0 3840 inb_S8x4096_S8x256_0_3840) := by
  rw [prologue_pieces]
  show xmM.view.readCov (xmPieces c arg0 f0) (Rect.unit (s := S16x64x256) ![15, 0, 0] S1x64x256.size inb_S16x64x256_S1x64x256_15_0_0).toLoadRect = _
  unfold xmPieces
  simp (disch := decide) only [↓ View.readCov_skip, ↓ View.readCov_cons_toLoadRect]

end Cert.KernelIdeal.Hand

end
-- ==== Proof.Value.TripValue.lean ====
/- The value one trip stores, at an index, over the extended reals: the sum over the 16 tiles of each tile's eight groups. -/
module

public import proofs.«01_k».proof.Proof.Value.TileValue

@[expose] public section

set_option maxRecDepth 65536

noncomputable section

namespace Cert.KernelIdeal.Hand

open Cert.KernelIdeal Cert.KernelIdeal.Gen
open Idealize.ShloMosaic Idealize.ShloMosaic.TcCoe Cert.Value

/-- The kernel's scale of a row and group. -/
def scaleAt (c : Dev nD) (fs : BufOf (F := Ideal) c sbM) (row : Fin 14336) (n : Fin 128) : EReal :=
  Ideal.ofBits FTy.f32 (IntOp.shli ArithUnit.vector ((fs (ix2 row n) : BitVec 8).setWidth 32) 23#32)

/-- An activation as the scratch holds it: tile, row, input of the tile. -/
def actAt (c : Dev nD) (fx : BufOf (F := Ideal) c xmM) (t : Fin 16) (r : Fin 64) (j : Fin 256) : EReal := fx (ix3 t r j)

/-- The value of a row's code for input `j` of tile `t`. -/
def codeAt (c : Dev nD) (fw : BufOf (F := Ideal) c wbM) (row : Fin 14336) (t : Fin 16) (j : Fin 256) : EReal :=
  codeVal (nib (fw (ix2 row (⟨128 * t.val + j.val / 2, by omega⟩ : Fin 2048))) (j.val % 2))

/-- What one tile adds to a result: its eight groups' masked products, each times the group's scale. -/
def tileTerm (c : Dev nD) (fw : BufOf (F := Ideal) c wbM) (fs : BufOf (F := Ideal) c sbM) (fx : BufOf (F := Ideal) c xmM)
    (b : Fin 8) (row : Fin 14336) (t : Fin 16) : EReal :=
  ∑ g : Fin 8, (∑ j : Fin 256, actAt c fx t ⟨8 * g.val + b.val, by omega⟩ j * codeAt c fw row t j)
    * scaleAt c fs row (⟨8 * t.val + g.val, by omega⟩ : Fin 128)

theorem tile_value (c : Dev nD) (k : Chunk) (fw : BufOf (F := Ideal) c wbM) (fs : BufOf (F := Ideal) c sbM) (fx : BufOf (F := Ideal) c xmM)
    (b : Fin 8) (o : Fin 512) (ho : 512 * k.val + o.val < 14336) (t : Fin 16) (acc : FVec Ideal S8x512 .f32)
    (off : Fin 2 → ℕ) (h : ∀ a, off a + S512x128.size a ≤ S14336x2048.size a) (e : off = ![512 * k.val, 128 * t.val])
    (hx : ∀ a, ![t.val, 0, 0] a + S1x64x256.size a ≤ S16x64x256.size a) (s0 s1 s2 s3 s4 s5 s6 s7 : Vec Ideal S1x512 .f32)
    (h0 : s0 (ix2 0 o) = scaleAt c fs ⟨512 * k.val + o.val, ho⟩ ⟨8 * t.val + 0, by omega⟩)
    (h1 : s1 (ix2 0 o) = scaleAt c fs ⟨512 * k.val + o.val, ho⟩ ⟨8 * t.val + 1, by omega⟩)
    (h2 : s2 (ix2 0 o) = scaleAt c fs ⟨512 * k.val + o.val, ho⟩ ⟨8 * t.val + 2, by omega⟩)
    (h3 : s3 (ix2 0 o) = scaleAt c fs ⟨512 * k.val + o.val, ho⟩ ⟨8 * t.val + 3, by omega⟩)
    (h4 : s4 (ix2 0 o) = scaleAt c fs ⟨512 * k.val + o.val, ho⟩ ⟨8 * t.val + 4, by omega⟩)
    (h5 : s5 (ix2 0 o) = scaleAt c fs ⟨512 * k.val + o.val, ho⟩ ⟨8 * t.val + 5, by omega⟩)
    (h6 : s6 (ix2 0 o) = scaleAt c fs ⟨512 * k.val + o.val, ho⟩ ⟨8 * t.val + 6, by omega⟩)
    (h7 : s7 (ix2 0 o) = scaleAt c fs ⟨512 * k.val + o.val, ho⟩ ⟨8 * t.val + 7, by omega⟩) :
    tileAdd (F := Ideal) acc (tileProd (codesRead c fw off h) (actsRead c fx t.val hx)) s0 s1 s2 s3 s4 s5 s6 s7 (ix2 b o)
      = acc (ix2 b o) + tileTerm c fw fs fx b ⟨512 * k.val + o.val, ho⟩ t := by
  rw [tileAdd_apply acc _ s0 s1 s2 s3 s4 s5 s6 s7 b o
    (fun g => scaleAt c fs ⟨512 * k.val + o.val, ho⟩ ⟨8 * t.val + g.val, by omega⟩) h0 h1 h2 h3 h4 h5 h6 h7]
  unfold tileTerm
  congr 1
  refine Finset.sum_congr rfl fun g _ => ?_
  rw [tileProd_apply]
  congr 1
  refine Finset.sum_congr rfl fun j _ => ?_
  rw [actsRead_apply c fx t hx, codesRead_apply c fw k off h t e o _ ho]
  rfl

theorem step_0 (c : Dev nD) (k : Chunk) (fw : BufOf (F := Ideal) c wbM) (fs : BufOf (F := Ideal) c sbM) (fx : BufOf (F := Ideal) c xmM)
    (b : Fin 8) (o : Fin 512) (ho : 512 * k.val + o.val < 14336) :
    tripRun.sl.r_6 (F := Ideal) c k fw fs fx (ix2 b o) = (k0_pay4 (F := Ideal)) (ix2 b o) + tileTerm c fw fs fx b ⟨512 * k.val + o.val, ho⟩ 0 := by
  rw [acc_0]
  exact tile_value c k fw fs fx b o ho 0 _ _ _ (k0_off4_eq k) inb_S16x64x256_S1x64x256_0_0_0 _ _ _ _ _ _ _ _
    (scaleRow_apply c fs k 0 inb_S128x512_S1x512_0_0 (by decide) o ho)
    (scaleRow_apply c fs k 1 inb_S128x512_S1x512_1_0 (by decide) o ho)
    (scaleRow_apply c fs k 2 inb_S128x512_S1x512_2_0 (by decide) o ho)
    (scaleRow_apply c fs k 3 inb_S128x512_S1x512_3_0 (by decide) o ho)
    (scaleRow_apply c fs k 4 inb_S128x512_S1x512_4_0 (by decide) o ho)
    (scaleRow_apply c fs k 5 inb_S128x512_S1x512_5_0 (by decide) o ho)
    (scaleRow_apply c fs k 6 inb_S128x512_S1x512_6_0 (by decide) o ho)
    (scaleRow_apply c fs k 7 inb_S128x512_S1x512_7_0 (by decide) o ho)

theorem step_1 (c : Dev nD) (k : Chunk) (fw : BufOf (F := Ideal) c wbM) (fs : BufOf (F := Ideal) c sbM) (fx : BufOf (F := Ideal) c xmM)
    (b : Fin 8) (o : Fin 512) (ho : 512 * k.val + o.val < 14336) :
    tripRun.sl.r_12 (F := Ideal) c k fw fs fx (ix2 b o) = tripRun.sl.r_6 (F := Ideal) c k fw fs fx (ix2 b o) + tileTerm c fw fs fx b ⟨512 * k.val + o.val, ho⟩ 1 := by
  rw [acc_1]
  exact tile_value c k fw fs fx b o ho 1 _ _ _ (k0_off5_eq k) inb_S16x64x256_S1x64x256_1_0_0 _ _ _ _ _ _ _ _
    (scaleRow_apply c fs k 8 inb_S128x512_S1x512_8_0 (by decide) o ho)
    (scaleRow_apply c fs k 9 inb_S128x512_S1x512_9_0 (by decide) o ho)
    (scaleRow_apply c fs k 10 inb_S128x512_S1x512_10_0 (by decide) o ho)
    (scaleRow_apply c fs k 11 inb_S128x512_S1x512_11_0 (by decide) o ho)
    (scaleRow_apply c fs k 12 inb_S128x512_S1x512_12_0 (by decide) o ho)
    (scaleRow_apply c fs k 13 inb_S128x512_S1x512_13_0 (by decide) o ho)
    (scaleRow_apply c fs k 14 inb_S128x512_S1x512_14_0 (by decide) o ho)
    (scaleRow_apply c fs k 15 inb_S128x512_S1x512_15_0 (by decide) o ho)

theorem step_2 (c : Dev nD) (k : Chunk) (fw : BufOf (F := Ideal) c wbM) (fs : BufOf (F := Ideal) c sbM) (fx : BufOf (F := Ideal) c xmM)
    (b : Fin 8) (o : Fin 512) (ho : 512 * k.val + o.val < 14336) :
    tripRun.sl.r_21 (F := Ideal) c k fw fs fx (ix2 b o) = tripRun.sl.r_12 (F := Ideal) c k fw fs fx (ix2 b o) + tileTerm c fw fs fx b ⟨512 * k.val + o.val, ho⟩ 2 := by
  rw [acc_2]
  exact tile_value c k fw fs fx b o ho 2 _ _ _ (k0_off6_eq k) inb_S16x64x256_S1x64x256_2_0_0 _ _ _ _ _ _ _ _
    (scaleRow_apply c fs k 16 inb_S128x512_S1x512_16_0 (by decide) o ho)
    (scaleRow_apply c fs k 17 inb_S128x512_S1x512_17_0 (by decide) o ho)
    (scaleRow_apply c fs k 18 inb_S128x512_S1x512_18_0 (by decide) o ho)
    (scaleRow_apply c fs k 19 inb_S128x512_S1x512_19_0 (by decide) o ho)
    (scaleRow_apply c fs k 20 inb_S128x512_S1x512_20_0 (by decide) o ho)
    (scaleRow_apply c fs k 21 inb_S128x512_S1x512_21_0 (by decide) o ho)
    (scaleRow_apply c fs k 22 inb_S128x512_S1x512_22_0 (by decide) o ho)
    (scaleRow_apply c fs k 23 inb_S128x512_S1x512_23_0 (by decide) o ho)

theorem step_3 (c : Dev nD) (k : Chunk) (fw : BufOf (F := Ideal) c wbM) (fs : BufOf (F := Ideal) c sbM) (fx : BufOf (F := Ideal) c xmM)
    (b : Fin 8) (o : Fin 512) (ho : 512 * k.val + o.val < 14336) :
    tripRun.sl.r_27 (F := Ideal) c k fw fs fx (ix2 b o) = tripRun.sl.r_21 (F := Ideal) c k fw fs fx (ix2 b o) + tileTerm c fw fs fx b ⟨512 * k.val + o.val, ho⟩ 3 := by
  rw [acc_3]
  exact tile_value c k fw fs fx b o ho 3 _ _ _ (k0_off7_eq k) inb_S16x64x256_S1x64x256_3_0_0 _ _ _ _ _ _ _ _
    (scaleRow_apply c fs k 24 inb_S128x512_S1x512_24_0 (by decide) o ho)
    (scaleRow_apply c fs k 25 inb_S128x512_S1x512_25_0 (by decide) o ho)
    (scaleRow_apply c fs k 26 inb_S128x512_S1x512_26_0 (by decide) o ho)
    (scaleRow_apply c fs k 27 inb_S128x512_S1x512_27_0 (by decide) o ho)
    (scaleRow_apply c fs k 28 inb_S128x512_S1x512_28_0 (by decide) o ho)
    (scaleRow_apply c fs k 29 inb_S128x512_S1x512_29_0 (by decide) o ho)
    (scaleRow_apply c fs k 30 inb_S128x512_S1x512_30_0 (by decide) o ho)
    (scaleRow_apply c fs k 31 inb_S128x512_S1x512_31_0 (by decide) o ho)

theorem step_4 (c : Dev nD) (k : Chunk) (fw : BufOf (F := Ideal) c wbM) (fs : BufOf (F := Ideal) c sbM) (fx : BufOf (F := Ideal) c xmM)
    (b : Fin 8) (o : Fin 512) (ho : 512 * k.val + o.val < 14336) :
    tripRun.sl.r_30 (F := Ideal) c k fw fs fx (ix2 b o) = tripRun.sl.r_27 (F := Ideal) c k fw fs fx (ix2 b o) + tileTerm c fw fs fx b ⟨512 * k.val + o.val, ho⟩ 4 := by
  rw [acc_4]
  exact tile_value c k fw fs fx b o ho 4 _ _ _ (k0_off8_eq k) inb_S16x64x256_S1x64x256_4_0_0 _ _ _ _ _ _ _ _
    (scaleRow_apply c fs k 32 inb_S128x512_S1x512_32_0 (by decide) o ho)
    (scaleRow_apply c fs k 33 inb_S128x512_S1x512_33_0 (by decide) o ho)
    (scaleRow_apply c fs k 34 inb_S128x512_S1x512_34_0 (by decide) o ho)
    (scaleRow_apply c fs k 35 inb_S128x512_S1x512_35_0 (by decide) o ho)
    (scaleRow_apply c fs k 36 inb_S128x512_S1x512_36_0 (by decide) o ho)
    (scaleRow_apply c fs k 37 inb_S128x512_S1x512_37_0 (by decide) o ho)
    (scaleRow_apply c fs k 38 inb_S128x512_S1x512_38_0 (by decide) o ho)
    (scaleRow_apply c fs k 39 inb_S128x512_S1x512_39_0 (by decide) o ho)

theorem step_5 (c : Dev nD) (k : Chunk) (fw : BufOf (F := Ideal) c wbM) (fs : BufOf (F := Ideal) c sbM) (fx : BufOf (F := Ideal) c xmM)
    (b : Fin 8) (o : Fin 512) (ho : 512 * k.val + o.val < 14336) :
    tripRun.sl.r_33 (F := Ideal) c k fw fs fx (ix2 b o) = tripRun.sl.r_30 (F := Ideal) c k fw fs fx (ix2 b o) + tileTerm c fw fs fx b ⟨512 * k.val + o.val, ho⟩ 5 := by
  rw [acc_5]
  exact tile_value c k fw fs fx b o ho 5 _ _ _ (k0_off9_eq k) inb_S16x64x256_S1x64x256_5_0_0 _ _ _ _ _ _ _ _
    (scaleRow_apply c fs k 40 inb_S128x512_S1x512_40_0 (by decide) o ho)
    (scaleRow_apply c fs k 41 inb_S128x512_S1x512_41_0 (by decide) o ho)
    (scaleRow_apply c fs k 42 inb_S128x512_S1x512_42_0 (by decide) o ho)
    (scaleRow_apply c fs k 43 inb_S128x512_S1x512_43_0 (by decide) o ho)
    (scaleRow_apply c fs k 44 inb_S128x512_S1x512_44_0 (by decide) o ho)
    (scaleRow_apply c fs k 45 inb_S128x512_S1x512_45_0 (by decide) o ho)
    (scaleRow_apply c fs k 46 inb_S128x512_S1x512_46_0 (by decide) o ho)
    (scaleRow_apply c fs k 47 inb_S128x512_S1x512_47_0 (by decide) o ho)

theorem step_6 (c : Dev nD) (k : Chunk) (fw : BufOf (F := Ideal) c wbM) (fs : BufOf (F := Ideal) c sbM) (fx : BufOf (F := Ideal) c xmM)
    (b : Fin 8) (o : Fin 512) (ho : 512 * k.val + o.val < 14336) :
    tripRun.sl.r_40 (F := Ideal) c k fw fs fx (ix2 b o) = tripRun.sl.r_33 (F := Ideal) c k fw fs fx (ix2 b o) + tileTerm c fw fs fx b ⟨512 * k.val + o.val, ho⟩ 6 := by
  rw [acc_6]
  exact tile_value c k fw fs fx b o ho 6 _ _ _ (k0_off10_eq k) inb_S16x64x256_S1x64x256_6_0_0 _ _ _ _ _ _ _ _
    (scaleRow_apply c fs k 48 inb_S128x512_S1x512_48_0 (by decide) o ho)
    (scaleRow_apply c fs k 49 inb_S128x512_S1x512_49_0 (by decide) o ho)
    (scaleRow_apply c fs k 50 inb_S128x512_S1x512_50_0 (by decide) o ho)
    (scaleRow_apply c fs k 51 inb_S128x512_S1x512_51_0 (by decide) o ho)
    (scaleRow_apply c fs k 52 inb_S128x512_S1x512_52_0 (by decide) o ho)
    (scaleRow_apply c fs k 53 inb_S128x512_S1x512_53_0 (by decide) o ho)
    (scaleRow_apply c fs k 54 inb_S128x512_S1x512_54_0 (by decide) o ho)
    (scaleRow_apply c fs k 55 inb_S128x512_S1x512_55_0 (by decide) o ho)

theorem step_7 (c : Dev nD) (k : Chunk) (fw : BufOf (F := Ideal) c wbM) (fs : BufOf (F := Ideal) c sbM) (fx : BufOf (F := Ideal) c xmM)
    (b : Fin 8) (o : Fin 512) (ho : 512 * k.val + o.val < 14336) :
    tripRun.sl.r_49 (F := Ideal) c k fw fs fx (ix2 b o) = tripRun.sl.r_40 (F := Ideal) c k fw fs fx (ix2 b o) + tileTerm c fw fs fx b ⟨512 * k.val + o.val, ho⟩ 7 := by
  rw [acc_7]
  exact tile_value c k fw fs fx b o ho 7 _ _ _ (k0_off11_eq k) inb_S16x64x256_S1x64x256_7_0_0 _ _ _ _ _ _ _ _
    (scaleRow_apply c fs k 56 inb_S128x512_S1x512_56_0 (by decide) o ho)
    (scaleRow_apply c fs k 57 inb_S128x512_S1x512_57_0 (by decide) o ho)
    (scaleRow_apply c fs k 58 inb_S128x512_S1x512_58_0 (by decide) o ho)
    (scaleRow_apply c fs k 59 inb_S128x512_S1x512_59_0 (by decide) o ho)
    (scaleRow_apply c fs k 60 inb_S128x512_S1x512_60_0 (by decide) o ho)
    (scaleRow_apply c fs k 61 inb_S128x512_S1x512_61_0 (by decide) o ho)
    (scaleRow_apply c fs k 62 inb_S128x512_S1x512_62_0 (by decide) o ho)
    (scaleRow_apply c fs k 63 inb_S128x512_S1x512_63_0 (by decide) o ho)

theorem step_8 (c : Dev nD) (k : Chunk) (fw : BufOf (F := Ideal) c wbM) (fs : BufOf (F := Ideal) c sbM) (fx : BufOf (F := Ideal) c xmM)
    (b : Fin 8) (o : Fin 512) (ho : 512 * k.val + o.val < 14336) :
    tripRun.sl.r_57 (F := Ideal) c k fw fs fx (ix2 b o) = tripRun.sl.r_49 (F := Ideal) c k fw fs fx (ix2 b o) + tileTerm c fw fs fx b ⟨512 * k.val + o.val, ho⟩ 8 := by
  rw [acc_8]
  exact tile_value c k fw fs fx b o ho 8 _ _ _ (k0_off12_eq k) inb_S16x64x256_S1x64x256_8_0_0 _ _ _ _ _ _ _ _
    (scaleRow_apply c fs k 64 inb_S128x512_S1x512_64_0 (by decide) o ho)
    (scaleRow_apply c fs k 65 inb_S128x512_S1x512_65_0 (by decide) o ho)
    (scaleRow_apply c fs k 66 inb_S128x512_S1x512_66_0 (by decide) o ho)
    (scaleRow_apply c fs k 67 inb_S128x512_S1x512_67_0 (by decide) o ho)
    (scaleRow_apply c fs k 68 inb_S128x512_S1x512_68_0 (by decide) o ho)
    (scaleRow_apply c fs k 69 inb_S128x512_S1x512_69_0 (by decide) o ho)
    (scaleRow_apply c fs k 70 inb_S128x512_S1x512_70_0 (by decide) o ho)
    (scaleRow_apply c fs k 71 inb_S128x512_S1x512_71_0 (by decide) o ho)

theorem step_9 (c : Dev nD) (k : Chunk) (fw : BufOf (F := Ideal) c wbM) (fs : BufOf (F := Ideal) c sbM) (fx : BufOf (F := Ideal) c xmM)
    (b : Fin 8) (o : Fin 512) (ho : 512 * k.val + o.val < 14336) :
    tripRun.sl.r_64 (F := Ideal) c k fw fs fx (ix2 b o) = tripRun.sl.r_57 (F := Ideal) c k fw fs fx (ix2 b o) + tileTerm c fw fs fx b ⟨512 * k.val + o.val, ho⟩ 9 := by
  rw [acc_9]
  exact tile_value c k fw fs fx b o ho 9 _ _ _ (k0_off13_eq k) inb_S16x64x256_S1x64x256_9_0_0 _ _ _ _ _ _ _ _
    (scaleRow_apply c fs k 72 inb_S128x512_S1x512_72_0 (by decide) o ho)
    (scaleRow_apply c fs k 73 inb_S128x512_S1x512_73_0 (by decide) o ho)
    (scaleRow_apply c fs k 74 inb_S128x512_S1x512_74_0 (by decide) o ho)
    (scaleRow_apply c fs k 75 inb_S128x512_S1x512_75_0 (by decide) o ho)
    (scaleRow_apply c fs k 76 inb_S128x512_S1x512_76_0 (by decide) o ho)
    (scaleRow_apply c fs k 77 inb_S128x512_S1x512_77_0 (by decide) o ho)
    (scaleRow_apply c fs k 78 inb_S128x512_S1x512_78_0 (by decide) o ho)
    (scaleRow_apply c fs k 79 inb_S128x512_S1x512_79_0 (by decide) o ho)

theorem step_10 (c : Dev nD) (k : Chunk) (fw : BufOf (F := Ideal) c wbM) (fs : BufOf (F := Ideal) c sbM) (fx : BufOf (F := Ideal) c xmM)
    (b : Fin 8) (o : Fin 512) (ho : 512 * k.val + o.val < 14336) :
    tripRun.sl.r_71 (F := Ideal) c k fw fs fx (ix2 b o) = tripRun.sl.r_64 (F := Ideal) c k fw fs fx (ix2 b o) + tileTerm c fw fs fx b ⟨512 * k.val + o.val, ho⟩ 10 := by
  rw [acc_10]
  exact tile_value c k fw fs fx b o ho 10 _ _ _ (k0_off14_eq k) inb_S16x64x256_S1x64x256_10_0_0 _ _ _ _ _ _ _ _
    (scaleRow_apply c fs k 80 inb_S128x512_S1x512_80_0 (by decide) o ho)
    (scaleRow_apply c fs k 81 inb_S128x512_S1x512_81_0 (by decide) o ho)
    (scaleRow_apply c fs k 82 inb_S128x512_S1x512_82_0 (by decide) o ho)
    (scaleRow_apply c fs k 83 inb_S128x512_S1x512_83_0 (by decide) o ho)
    (scaleRow_apply c fs k 84 inb_S128x512_S1x512_84_0 (by decide) o ho)
    (scaleRow_apply c fs k 85 inb_S128x512_S1x512_85_0 (by decide) o ho)
    (scaleRow_apply c fs k 86 inb_S128x512_S1x512_86_0 (by decide) o ho)
    (scaleRow_apply c fs k 87 inb_S128x512_S1x512_87_0 (by decide) o ho)

theorem step_11 (c : Dev nD) (k : Chunk) (fw : BufOf (F := Ideal) c wbM) (fs : BufOf (F := Ideal) c sbM) (fx : BufOf (F := Ideal) c xmM)
    (b : Fin 8) (o : Fin 512) (ho : 512 * k.val + o.val < 14336) :
    tripRun.sl.r_77 (F := Ideal) c k fw fs fx (ix2 b o) = tripRun.sl.r_71 (F := Ideal) c k fw fs fx (ix2 b o) + tileTerm c fw fs fx b ⟨512 * k.val + o.val, ho⟩ 11 := by
  rw [acc_11]
  exact tile_value c k fw fs fx b o ho 11 _ _ _ (k0_off15_eq k) inb_S16x64x256_S1x64x256_11_0_0 _ _ _ _ _ _ _ _
    (scaleRow_apply c fs k 88 inb_S128x512_S1x512_88_0 (by decide) o ho)
    (scaleRow_apply c fs k 89 inb_S128x512_S1x512_89_0 (by decide) o ho)
    (scaleRow_apply c fs k 90 inb_S128x512_S1x512_90_0 (by decide) o ho)
    (scaleRow_apply c fs k 91 inb_S128x512_S1x512_91_0 (by decide) o ho)
    (scaleRow_apply c fs k 92 inb_S128x512_S1x512_92_0 (by decide) o ho)
    (scaleRow_apply c fs k 93 inb_S128x512_S1x512_93_0 (by decide) o ho)
    (scaleRow_apply c fs k 94 inb_S128x512_S1x512_94_0 (by decide) o ho)
    (scaleRow_apply c fs k 95 inb_S128x512_S1x512_95_0 (by decide) o ho)

theorem step_12 (c : Dev nD) (k : Chunk) (fw : BufOf (F := Ideal) c wbM) (fs : BufOf (F := Ideal) c sbM) (fx : BufOf (F := Ideal) c xmM)
    (b : Fin 8) (o : Fin 512) (ho : 512 * k.val + o.val < 14336) :
    tripRun.sl.r_86 (F := Ideal) c k fw fs fx (ix2 b o) = tripRun.sl.r_77 (F := Ideal) c k fw fs fx (ix2 b o) + tileTerm c fw fs fx b ⟨512 * k.val + o.val, ho⟩ 12 := by
  rw [acc_12]
  exact tile_value c k fw fs fx b o ho 12 _ _ _ (k0_off16_eq k) inb_S16x64x256_S1x64x256_12_0_0 _ _ _ _ _ _ _ _
    (scaleRow_apply c fs k 96 inb_S128x512_S1x512_96_0 (by decide) o ho)
    (scaleRow_apply c fs k 97 inb_S128x512_S1x512_97_0 (by decide) o ho)
    (scaleRow_apply c fs k 98 inb_S128x512_S1x512_98_0 (by decide) o ho)
    (scaleRow_apply c fs k 99 inb_S128x512_S1x512_99_0 (by decide) o ho)
    (scaleRow_apply c fs k 100 inb_S128x512_S1x512_100_0 (by decide) o ho)
    (scaleRow_apply c fs k 101 inb_S128x512_S1x512_101_0 (by decide) o ho)
    (scaleRow_apply c fs k 102 inb_S128x512_S1x512_102_0 (by decide) o ho)
    (scaleRow_apply c fs k 103 inb_S128x512_S1x512_103_0 (by decide) o ho)

theorem step_13 (c : Dev nD) (k : Chunk) (fw : BufOf (F := Ideal) c wbM) (fs : BufOf (F := Ideal) c sbM) (fx : BufOf (F := Ideal) c xmM)
    (b : Fin 8) (o : Fin 512) (ho : 512 * k.val + o.val < 14336) :
    tripRun.sl.r_92 (F := Ideal) c k fw fs fx (ix2 b o) = tripRun.sl.r_86 (F := Ideal) c k fw fs fx (ix2 b o) + tileTerm c fw fs fx b ⟨512 * k.val + o.val, ho⟩ 13 := by
  rw [acc_13]
  exact tile_value c k fw fs fx b o ho 13 _ _ _ (k0_off17_eq k) inb_S16x64x256_S1x64x256_13_0_0 _ _ _ _ _ _ _ _
    (scaleRow_apply c fs k 104 inb_S128x512_S1x512_104_0 (by decide) o ho)
    (scaleRow_apply c fs k 105 inb_S128x512_S1x512_105_0 (by decide) o ho)
    (scaleRow_apply c fs k 106 inb_S128x512_S1x512_106_0 (by decide) o ho)
    (scaleRow_apply c fs k 107 inb_S128x512_S1x512_107_0 (by decide) o ho)
    (scaleRow_apply c fs k 108 inb_S128x512_S1x512_108_0 (by decide) o ho)
    (scaleRow_apply c fs k 109 inb_S128x512_S1x512_109_0 (by decide) o ho)
    (scaleRow_apply c fs k 110 inb_S128x512_S1x512_110_0 (by decide) o ho)
    (scaleRow_apply c fs k 111 inb_S128x512_S1x512_111_0 (by decide) o ho)

theorem step_14 (c : Dev nD) (k : Chunk) (fw : BufOf (F := Ideal) c wbM) (fs : BufOf (F := Ideal) c sbM) (fx : BufOf (F := Ideal) c xmM)
    (b : Fin 8) (o : Fin 512) (ho : 512 * k.val + o.val < 14336) :
    tripRun.sl.r_95 (F := Ideal) c k fw fs fx (ix2 b o) = tripRun.sl.r_92 (F := Ideal) c k fw fs fx (ix2 b o) + tileTerm c fw fs fx b ⟨512 * k.val + o.val, ho⟩ 14 := by
  rw [acc_14]
  exact tile_value c k fw fs fx b o ho 14 _ _ _ (k0_off18_eq k) inb_S16x64x256_S1x64x256_14_0_0 _ _ _ _ _ _ _ _
    (scaleRow_apply c fs k 112 inb_S128x512_S1x512_112_0 (by decide) o ho)
    (scaleRow_apply c fs k 113 inb_S128x512_S1x512_113_0 (by decide) o ho)
    (scaleRow_apply c fs k 114 inb_S128x512_S1x512_114_0 (by decide) o ho)
    (scaleRow_apply c fs k 115 inb_S128x512_S1x512_115_0 (by decide) o ho)
    (scaleRow_apply c fs k 116 inb_S128x512_S1x512_116_0 (by decide) o ho)
    (scaleRow_apply c fs k 117 inb_S128x512_S1x512_117_0 (by decide) o ho)
    (scaleRow_apply c fs k 118 inb_S128x512_S1x512_118_0 (by decide) o ho)
    (scaleRow_apply c fs k 119 inb_S128x512_S1x512_119_0 (by decide) o ho)

theorem step_15 (c : Dev nD) (k : Chunk) (fw : BufOf (F := Ideal) c wbM) (fs : BufOf (F := Ideal) c sbM) (fx : BufOf (F := Ideal) c xmM)
    (b : Fin 8) (o : Fin 512) (ho : 512 * k.val + o.val < 14336) :
    (tripRun (F := Ideal) c k fw fs fx).1 (ix2 b o) = tripRun.sl.r_95 (F := Ideal) c k fw fs fx (ix2 b o) + tileTerm c fw fs fx b ⟨512 * k.val + o.val, ho⟩ 15 := by
  rw [acc_15]
  exact tile_value c k fw fs fx b o ho 15 _ _ _ (k0_off19_eq k) inb_S16x64x256_S1x64x256_15_0_0 _ _ _ _ _ _ _ _
    (scaleRow_apply c fs k 120 inb_S128x512_S1x512_120_0 (by decide) o ho)
    (scaleRow_apply c fs k 121 inb_S128x512_S1x512_121_0 (by decide) o ho)
    (scaleRow_apply c fs k 122 inb_S128x512_S1x512_122_0 (by decide) o ho)
    (scaleRow_apply c fs k 123 inb_S128x512_S1x512_123_0 (by decide) o ho)
    (scaleRow_apply c fs k 124 inb_S128x512_S1x512_124_0 (by decide) o ho)
    (scaleRow_apply c fs k 125 inb_S128x512_S1x512_125_0 (by decide) o ho)
    (scaleRow_apply c fs k 126 inb_S128x512_S1x512_126_0 (by decide) o ho)
    (scaleRow_apply c fs k 127 inb_S128x512_S1x512_127_0 (by decide) o ho)

/-- A trip's stored value at an index. -/
theorem trip_apply (c : Dev nD) (k : Chunk) (fw : BufOf (F := Ideal) c wbM) (fs : BufOf (F := Ideal) c sbM) (fx : BufOf (F := Ideal) c xmM)
    (b : Fin 8) (o : Fin 512) (ho : 512 * k.val + o.val < 14336) :
    (tripRun (F := Ideal) c k fw fs fx).1 (ix2 b o) = ∑ t : Fin 16, tileTerm c fw fs fx b ⟨512 * k.val + o.val, ho⟩ t := by
  have hz : k0_pay4 (F := Ideal) (ix2 b o) = 0 := by pointwise [k0_pay4]
  rw [step_15 c k fw fs fx b o ho, step_14 c k fw fs fx b o ho, step_13 c k fw fs fx b o ho, step_12 c k fw fs fx b o ho, step_11 c k fw fs fx b o ho, step_10 c k fw fs fx b o ho, step_9 c k fw fs fx b o ho, step_8 c k fw fs fx b o ho, step_7 c k fw fs fx b o ho, step_6 c k fw fs fx b o ho, step_5 c k fw fs fx b o ho, step_4 c k fw fs fx b o ho, step_3 c k fw fs fx b o ho, step_2 c k fw fs fx b o ho, step_1 c k fw fs fx b o ho, step_0 c k fw fs fx b o ho, hz]
  simp only [Fin.sum_univ_succ, Fin.sum_univ_zero, zero_add, add_zero, add_assoc]
  rfl

end Cert.KernelIdeal.Hand

end
-- ==== Proof.Value.ActsValue.lean ====
/- The masked activations' values: where a row's group is the input's group the activation, elsewhere zero. -/
module

public import proofs.«01_k».proof.Proof.Value.Acts
public import proofs.«01_k».proof.Proof.Value.TripValue

@[expose] public section

set_option maxRecDepth 65536

noncomputable section

namespace Cert.KernelIdeal.Hand

open Cert.KernelIdeal Cert.KernelIdeal.Gen
open Idealize.ShloMosaic Idealize.ShloMosaic.TcCoe

/-- The word of a row's number divided by 8, rounded down, as the kernel computes it. -/
theorem rowGroup : ∀ r : Fin 64,
    Scalar.select
        (IntOp.andi
          (IntOp.cmpi CmpIPredicate.ne
            (IntOp.subi (BitVec.setWidth 32 (IntOp.cmpi CmpIPredicate.sgt (BitVec.ofNat 32 r.val) 0#32))
              (BitVec.setWidth 32 (IntOp.cmpi CmpIPredicate.slt (BitVec.ofNat 32 r.val) 0#32)))
            (Scalar.subi 1#32 0#32))
          (IntOp.cmpi CmpIPredicate.ne (IntOp.remsi ArithUnit.vector (BitVec.ofNat 32 r.val) 8#32) 0#32))
        (IntOp.subi (IntOp.divsi ArithUnit.vector (BitVec.ofNat 32 r.val) 8#32) 1#32)
        (IntOp.divsi ArithUnit.vector (BitVec.ofNat 32 r.val) 8#32) = BitVec.ofNat 32 (r.val / 8) := by
  decide +kernel

/-- The word of an input's number divided by 32, rounded down, as the kernel computes it. -/
theorem colGroup : ∀ j : Fin 256,
    Scalar.select
        (IntOp.andi
          (IntOp.cmpi CmpIPredicate.ne
            (IntOp.subi (BitVec.setWidth 32 (IntOp.cmpi CmpIPredicate.sgt (BitVec.ofNat 32 j.val) 0#32))
              (BitVec.setWidth 32 (IntOp.cmpi CmpIPredicate.slt (BitVec.ofNat 32 j.val) 0#32)))
            (Scalar.subi (Scalar.extui (Scalar.cmpi CmpIPredicate.sgt 32#32 0#32))
              (Scalar.extui (Scalar.cmpi CmpIPredicate.slt 32#32 0#32))))
          (IntOp.cmpi CmpIPredicate.ne (IntOp.remsi ArithUnit.vector (BitVec.ofNat 32 j.val) 32#32) 0#32))
        (IntOp.subi (IntOp.divsi ArithUnit.vector (BitVec.ofNat 32 j.val) 32#32) 1#32)
        (IntOp.divsi ArithUnit.vector (BitVec.ofNat 32 j.val) 32#32) = BitVec.ofNat 32 (j.val / 32) := by
  decide +kernel

theorem groupEq : ∀ p q : Fin 8, IntOp.cmpi CmpIPredicate.eq (BitVec.ofNat 32 p.val) (BitVec.ofNat 32 q.val) = if p = q then 1#1 else 0#1 := by
  decide +kernel

/-- The mask at an index: the row's group is the input's group. -/
theorem mask_apply (r : Fin 64) (j : Fin 256) :
    prologueRun.sl.r (ix2 r j) = if (⟨r.val / 8, by omega⟩ : Fin 8) = ⟨j.val / 32, by omega⟩ then 1#1 else 0#1 := by
  pointwise [prologueRun.sl.r, prologueRun.sl.v112, prologueRun.sl.v113, prologueRun.sl.v115, prologueRun.sl.v117, prologueRun.sl.v120, k0_pay124]
  rw [rowGroup, colGroup]
  exact groupEq ⟨r.val / 8, by omega⟩ ⟨j.val / 32, by omega⟩

theorem masked_apply (xv : Vec Ideal S8x256 .bf16) (g b : Fin 8) (j : Fin 256) :
    k0_pay1 (F := Ideal) prologueRun.sl.r xv (ix3 0 (⟨8 * g.val + b.val, by omega⟩ : Fin 64) j)
      = if g.val = j.val / 32 then xv (ix2 b j) else (0 : EReal) := by
  pointwise [k0_pay1]
  rw [mask_apply]
  have hg : (⟨(8 * g.val + b.val) / 8, by omega⟩ : Fin 8) = g := Fin.ext (by show (8 * g.val + b.val) / 8 = g.val; omega)
  have hc : ((⟨(8 * g.val + b.val) / 8, by omega⟩ : Fin 8) = ⟨j.val / 32, by omega⟩) ↔ g.val = j.val / 32 := by
    rw [hg, Fin.ext_iff]
  by_cases h : g.val = j.val / 32
  · rw [if_pos h, if_pos (hc.2 h)]
    have hs : ∀ A B : EReal, Scalar.select 1#1 A B = A := fun _ _ => rfl
    refine (hs _ _).trans ?_
    have key : ∀ n (hn : n < 8), n = b.val → xv (ix2 (⟨n, hn⟩ : Fin 8) j) = xv (ix2 b j) := by
      intro n hn e; subst e; rfl
    fin_vals g with hk
    all_goals simp only [hk]
    all_goals (repeat' (first | rw [dif_pos (by omega)] | rw [dif_neg (by omega)]))
    all_goals exact key _ _ (by omega)
  · rw [if_neg h, if_neg fun e => h (hc.1 e)]
    rfl

/-- The activations a tile's load reads, at an index. -/
theorem xRead_apply (c : Dev nD) (arg0 : Memref sig .tc .vmem S8x4096 .bf16) (f0 : BufOf (F := Ideal) c arg0) (X : Vec Ideal S8x4096 .bf16)
    (hX : arg0.view.read (Elt Ideal) f0 = X) (t : Fin 16) (h : ∀ a, ![0, 256 * t.val] a + S8x256.size a ≤ S8x4096.size a) (b : Fin 8) (j : Fin 256) :
    xRead c arg0 f0 (256 * t.val) h (ix2 b j) = X (ix2 b (⟨256 * t.val + j.val, by omega⟩ : Fin 4096)) := by
  subst hX
  show arg0.view.read (Elt Ideal) f0 _ = arg0.view.read (Elt Ideal) f0 _
  congr 1
  funext a
  apply Fin.ext
  match a with
  | 0 => show 0 + 1 * b.val = b.val; omega
  | 1 => show 256 * t.val + 1 * j.val = 256 * t.val + j.val; omega

/-- What a load of one tile of the scratch reads, by the tile's number. -/
theorem xm_at (c : Dev nD) (arg0 : Memref sig .tc .vmem S8x4096 .bf16) (harg0 : arg0.IsWhole) (f0 : BufOf (F := Ideal) c arg0)
    (u n : ℕ) (hu : u < 16) (e : n = 256 * u) (hb : ∀ a, ![u, 0, 0] a + S1x64x256.size a ≤ S16x64x256.size a)
    (hn : ∀ a, ![0, n] a + S8x256.size a ≤ S8x4096.size a) :
    actsRead c (prologueRun (F := Ideal) c arg0 harg0 f0).1 u hb = k0_pay1 prologueRun.sl.r (xRead c arg0 f0 n hn) := by
  interval_cases u
  · have e' : n = 0 := by omega
    subst e'
    exact xm_0 c arg0 harg0 f0
  · have e' : n = 256 := by omega
    subst e'
    exact xm_1 c arg0 harg0 f0
  · have e' : n = 512 := by omega
    subst e'
    exact xm_2 c arg0 harg0 f0
  · have e' : n = 768 := by omega
    subst e'
    exact xm_3 c arg0 harg0 f0
  · have e' : n = 1024 := by omega
    subst e'
    exact xm_4 c arg0 harg0 f0
  · have e' : n = 1280 := by omega
    subst e'
    exact xm_5 c arg0 harg0 f0
  · have e' : n = 1536 := by omega
    subst e'
    exact xm_6 c arg0 harg0 f0
  · have e' : n = 1792 := by omega
    subst e'
    exact xm_7 c arg0 harg0 f0
  · have e' : n = 2048 := by omega
    subst e'
    exact xm_8 c arg0 harg0 f0
  · have e' : n = 2304 := by omega
    subst e'
    exact xm_9 c arg0 harg0 f0
  · have e' : n = 2560 := by omega
    subst e'
    exact xm_10 c arg0 harg0 f0
  · have e' : n = 2816 := by omega
    subst e'
    exact xm_11 c arg0 harg0 f0
  · have e' : n = 3072 := by omega
    subst e'
    exact xm_12 c arg0 harg0 f0
  · have e' : n = 3328 := by omega
    subst e'
    exact xm_13 c arg0 harg0 f0
  · have e' : n = 3584 := by omega
    subst e'
    exact xm_14 c arg0 harg0 f0
  · have e' : n = 3840 := by omega
    subst e'
    exact xm_15 c arg0 harg0 f0

/-- The scratch of masked activations, at an index. -/
theorem act_apply (c : Dev nD) (arg0 : Memref sig .tc .vmem S8x4096 .bf16) (harg0 : arg0.IsWhole) (f0 : BufOf (F := Ideal) c arg0)
    (X : Vec Ideal S8x4096 .bf16) (hX : arg0.view.read (Elt Ideal) f0 = X) (t : Fin 16) (g b : Fin 8) (j : Fin 256) :
    actAt c (prologueRun (F := Ideal) c arg0 harg0 f0).1 t ⟨8 * g.val + b.val, by omega⟩ j
      = if g.val = j.val / 32 then X (ix2 b (⟨256 * t.val + j.val, by omega⟩ : Fin 4096)) else (0 : EReal) := by
  have hb : ∀ a, ![t.val, 0, 0] a + S1x64x256.size a ≤ S16x64x256.size a := fun a => match a with
    | 0 => by show t.val + 1 ≤ 16; omega
    | 1 => by show 0 + 64 ≤ 64; omega
    | 2 => by show 0 + 256 ≤ 256; omega
  have hn : ∀ a, ![0, 256 * t.val] a + S8x256.size a ≤ S8x4096.size a := fun a => match a with
    | 0 => by show 0 + 8 ≤ 8; omega
    | 1 => by show 256 * t.val + 256 ≤ 4096; omega
  have hm : actsRead c (prologueRun (F := Ideal) c arg0 harg0 f0).1 t.val hb = k0_pay1 prologueRun.sl.r (xRead c arg0 f0 (256 * t.val) hn) := by
    exact xm_at c arg0 harg0 f0 t.val _ t.isLt rfl hb hn
  have ha := actsRead_apply c (prologueRun (F := Ideal) c arg0 harg0 f0).1 t hb ⟨8 * g.val + b.val, by omega⟩ j
  unfold actAt
  rw [← ha, hm, masked_apply, xRead_apply c arg0 f0 X hX t hn b j]

end Cert.KernelIdeal.Hand

end
-- ==== Proof.Value.Regroup.lean ====
/- The kernel's sum, tile by tile and group by group with the scale outside, is one sum over the 4096 inputs with the scale
   inside. -/
module

public import proofs.«01_k».proof.Proof.Value.ActsValue

@[expose] public section

set_option maxRecDepth 65536

noncomputable section

namespace Cert.Value

open Idealize.ShloMosaic

/-- The masked products of a tile's groups, each group times its scale, are the tile's products each times its own scale. -/
theorem tile_regroup (x w : Fin 256 → EReal) (e : Fin 8 → BitVec 8) :
    ∑ g : Fin 8, (∑ j : Fin 256, (if g.val = j.val / 32 then x j else 0) * w j) * scaleVal (e g)
      = ∑ j : Fin 256, x j * (w j * scaleVal (e ⟨j.val / 32, by omega⟩)) := by
  simp only [sum_mul_scale]
  rw [Finset.sum_comm]
  refine Finset.sum_congr rfl fun j _ => ?_
  rw [Finset.sum_eq_single (⟨j.val / 32, by omega⟩ : Fin 8)]
  · rw [if_pos rfl, mul_assoc]
  · intro g _ hg
    rw [if_neg fun h => hg (Fin.ext h), zero_mul, zero_mul]
  · intro h
    exact absurd (Finset.mem_univ _) h

/-- A sum over 4096 inputs, cut into 16 tiles of 256. -/
theorem sum_tiles (f : Fin 4096 → EReal) :
    ∑ k : Fin 4096, f k = ∑ t : Fin 16, ∑ j : Fin 256, f ⟨256 * t.val + j.val, by omega⟩ := by
  rw [← Fintype.sum_prod_type' (f := fun (t : Fin 16) (j : Fin 256) => f ⟨256 * t.val + j.val, by omega⟩)]
  refine (Fintype.sum_equiv (finProdFinEquiv (m := 16) (n := 256)) _ f fun p => ?_).symm
  refine congrArg f (Fin.ext ?_)
  show 256 * p.1.val + p.2.val = p.2.val + 256 * p.1.val
  omega

end Cert.Value

namespace Cert.KernelIdeal.Hand

open Cert.KernelIdeal Cert.KernelIdeal.Gen
open Idealize.ShloMosaic Idealize.ShloMosaic.TcCoe Cert.Value

/-- The tiles' terms together are the plain sum. -/
theorem tiles_eq (c : Dev nD) (arg0 : Memref sig .tc .vmem S8x4096 .bf16) (harg0 : arg0.IsWhole) (f0 : BufOf (F := Ideal) c arg0)
    (X : Vec Ideal S8x4096 .bf16) (hX : arg0.view.read (Elt Ideal) f0 = X) (fw : BufOf (F := Ideal) c wbM) (fs : BufOf (F := Ideal) c sbM)
    (W : Vec Ideal S14336x2048 .i8) (S : Vec Ideal S14336x128 .i8) (hW : fw = W) (hS : fs = S)
    (b : Fin 8) (row : Fin 14336) (h : ∀ n : Fin 128, S (ix2 row n) ≠ (0 : BitVec 8) ∧ S (ix2 row n) ≠ (255 : BitVec 8)) :
    ∑ t : Fin 16, tileTerm c fw fs (prologueRun (F := Ideal) c arg0 harg0 f0).1 b row t
      = ∑ k : Fin 4096, (X (ix2 b k) : EReal)
        * (codeVal (nib (W (ix2 row ⟨k.val / 2, by omega⟩)) (k.val % 2)) * scaleVal (S (ix2 row ⟨k.val / 32, by omega⟩))) := by
  subst hW hS
  rw [sum_tiles]
  refine Finset.sum_congr rfl fun t _ => ?_
  unfold tileTerm
  have hs : ∀ n : Fin 128, scaleAt c fs row n = scaleVal (fs (ix2 row n)) := fun n => ofBits_exponent _ (h n).1 (h n).2
  simp only [hs, act_apply c arg0 harg0 f0 X hX]
  refine (tile_regroup (fun j => X (ix2 b (⟨256 * t.val + j.val, by omega⟩ : Fin 4096))) (fun j => codeAt c fw row t j)
    (fun g => fs (ix2 row (⟨8 * t.val + g.val, by omega⟩ : Fin 128)))).trans ?_
  refine Finset.sum_congr rfl fun j _ => ?_
  have e1 : (⟨128 * t.val + j.val / 2, by omega⟩ : Fin 2048) = ⟨(256 * t.val + j.val) / 2, by omega⟩ :=
    Fin.ext (by show 128 * t.val + j.val / 2 = (256 * t.val + j.val) / 2; omega)
  have e2 : j.val % 2 = (256 * t.val + j.val) % 2 := by omega
  have e3 : (⟨8 * t.val + j.val / 32, by omega⟩ : Fin 128) = ⟨(256 * t.val + j.val) / 32, by omega⟩ :=
    Fin.ext (by show 8 * t.val + j.val / 32 = (256 * t.val + j.val) / 32; omega)
  unfold codeAt
  rw [e1, e2]
  simp only [e3]

end Cert.KernelIdeal.Hand

end
-- ==== Proof.Value.Result.lean ====
/- What the program returns, element by element: the array the body leaves, behind the two reshapes that drop and restore the
   middle axis of extent one. -/
module

public import proofs.«01_k».proof.Proof.Value.Regroup
public import proofs.«01_k».proof.Proof.Ideal.Frame
public import Idealize.ShloMosaic.Lib.Pipeline.ValueKit

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic Cert.Value

variable {F : FTy → Type} [FloatOps F]
variable (m : (ℓ : Loc nD τ sig) → Buf (Elt F) ℓ)

/-- The output array after the pipeline is what the one grid point leaves. -/
theorem out_array (c : Dev nD) : (dats m 0 c).arrAt 1 (cfgs 0).N = outAt m c t0_0 := by
  refine (dats m 0 c).arrAt_eq_of_after_last 1 t0_0 (by decide +kernel) _ fun j => ?_
  rw [after0_1]
  rfl

/-- The activations as the pipeline finds them are the first argument without its middle axis. -/
theorem V_main_v0 (c : Dev nD) :
    V m c main_v0 = shapeCast S8x4096 (m ((c : Thread nD τ).loc main_arg0)) shapeCasts_S8x1x4096_S8x4096 := by
  simp only [V, V0, hostOps0, List.flatten_cons, List.flatten_nil, List.append_nil, StableHlo.after_cons, StableHlo.after_nil]
  rw [StableHlo.reshape_result]
  rfl

/-- The block of activations the one grid point reads is the whole array. -/
theorem iblk_eq (c : Dev nD) : iblk m c 0 t0_0 = shapeCast S8x4096 (m ((c : Thread nD τ).loc main_arg0)) shapeCasts_S8x1x4096_S8x4096 := by
  refine Eq.trans ?_ (V_main_v0 m c)
  funext y
  show (V m c main_v0) (((cfg0.win 0).blk t0_0).view.emb y) = V m c main_v0 y
  refine congrArg (V m c main_v0) ?_
  funext a
  refine Fin.ext ?_
  blk_simp
  have h : win0_0.index t0_0 a = 0 := rfl
  rw [h, Nat.zero_mul, Nat.zero_add]

/-- The result buffer at the end: the output array with a middle axis of extent one. -/
theorem end_v2 (c : Dev nD) : Pipeline.afterTail₀ cfgs (dats m) 0 (V0 m) [hostOps1] c main_v2
    = shapeCast S8x1x14336 (outAt m c t0_0) shapeCasts_S8x14336_S8x1x14336 := by
  unfold Pipeline.afterTail₀
  simp only [hostOps1, List.flatten_cons, List.flatten_nil, List.append_nil, StableHlo.after_cons, StableHlo.after_nil]
  rw [StableHlo.reshape_result]
  have h := Pipeline.withArrays_arr spec0 (by decide) c (V0 m c) (fun w => (dats m 0 c).arrAt w (cfgs 0).N) 1
  rw [out_array] at h
  exact congrArg (fun a => shapeCast S8x1x14336 a shapeCasts_S8x14336_S8x1x14336) h

end Cert.KernelIdeal.Hand

end
-- ==== Proof.Value.KernelSum.lean ====
/- The kernel's result at an index, with no scale code at an end of its range: the same sum as the reference's. -/
module

public import proofs.«01_k».proof.Proof.Value.Result

@[expose] public section

set_option maxRecDepth 65536

noncomputable section

namespace Cert.KernelIdeal.Hand

open Cert.KernelIdeal Cert.KernelIdeal.Gen
open Idealize.ShloMosaic Idealize.ShloMosaic.TcCoe Cert.Value

/-- A result element is its chunk's trip's element, the sum over the 16 tiles. -/
theorem outArr_apply (c : Dev nD) (fw : BufOf (F := Ideal) c wbM) (fs : BufOf (F := Ideal) c sbM) (gx : BufOf (F := Ideal) c xmM)
    (b : Fin 8) (o : Fin 14336) : outArr c fw fs gx (ix2 b o) = ∑ t : Fin 16, tileTerm c fw fs gx b o t := by
  have hk : (chunkOf (ix2 b o)).val = o.val / 512 := rfl
  have hy : inChunk (ix2 b o) = ix2 b (⟨o.val % 512, Nat.mod_lt _ (by decide)⟩ : Fin 512) := by
    funext a
    match a with
    | ⟨0, _⟩ => rfl
    | ⟨1, _⟩ => rfl
  have ho : 512 * (chunkOf (ix2 b o)).val + o.val % 512 < 14336 := by
    rw [hk]; have := o.isLt; omega
  have hr : (⟨512 * (chunkOf (ix2 b o)).val + o.val % 512, ho⟩ : Fin 14336) = o := Fin.ext (by
    show 512 * (chunkOf (ix2 b o)).val + o.val % 512 = o.val
    rw [hk]; omega)
  have h := trip_apply c (chunkOf (ix2 b o)) fw fs gx b (⟨o.val % 512, Nat.mod_lt _ (by decide)⟩ : Fin 512) ho
  rw [hr] at h
  unfold outArr
  rw [hy]
  exact h

/-- What the body leaves, over a block of activations `X`, packed codes `W` and scale codes `S`. -/
theorem bodyOut_apply (c : Dev nD) (arg0 : Memref sig .tc .vmem S8x4096 .bf16) (harg0 : arg0.IsWhole)
    (X : Vec Ideal S8x4096 .bf16) (fh : BufOf (F := Ideal) c whM) (fsh : BufOf (F := Ideal) c shM)
    (W : Vec Ideal S14336x2048 .i8) (S : Vec Ideal S14336x128 .i8) (hW : fh = W) (hS : fsh = S)
    (b : Fin 8) (o : Fin 14336) (h : ∀ n : Fin 128, S (ix2 o n) ≠ (0 : BitVec 8) ∧ S (ix2 o n) ≠ (255 : BitVec 8)) :
    (bodyOut c arg0 harg0 X fh fsh (ix2 b o) : EReal) = ∑ k : Fin 4096, (X (ix2 b k) : EReal)
      * (codeVal (nib (W (ix2 o ⟨k.val / 2, by omega⟩)) (k.val % 2)) * scaleVal (S (ix2 o ⟨k.val / 32, by omega⟩))) := by
  unfold bodyOut
  refine (outArr_apply c _ _ _ b o).trans ?_
  exact tiles_eq c arg0 harg0 (held c arg0 X) X (View.read_write_univ _ _) _ _ W S hW hS b o h

variable (m : (ℓ : Loc nD τ sig) → Buf (Elt Ideal) ℓ)

/-- The array the pipeline leaves, of the program's arguments. -/
theorem outAt_apply (c : Dev nD) (x0 : Vec Ideal S8x1x4096 .bf16) (x1 : Vec Ideal S14336x2048 .i8) (x2 : Vec Ideal S14336x128 .i8)
    (h0 : m ((c : Thread nD τ).loc main_arg0) = x0) (h1 : m ((c : Thread nD τ).loc main_arg1) = x1)
    (h2 : m ((c : Thread nD τ).loc main_arg2) = x2) (b : Fin 8) (o : Fin 14336)
    (h : ∀ n : Fin 128, x2 (ix2 o n) ≠ (0 : BitVec 8) ∧ x2 (ix2 o n) ≠ (255 : BitVec 8)) :
    (outAt m c t0_0 (ix2 b o) : EReal) = ∑ k : Fin 4096, (x0 (ix3 b 0 k) : EReal)
      * (codeVal (nib (x1 (ix2 o ⟨k.val / 2, by omega⟩)) (k.val % 2)) * scaleVal (x2 (ix2 o ⟨k.val / 32, by omega⟩))) := by
  unfold outAt
  refine (bodyOut_apply c _ _ _ _ _ x1 x2 ((V_main_arg1 m c).trans h1) ((V_main_arg2 m c).trans h2) b o h).trans ?_
  refine Finset.sum_congr rfl fun k _ => congrArg (fun a : EReal => a * _) ?_
  rw [iblk_eq, h0]
  pointwise

/-- The program's result at an index. -/
theorem end_apply (c : Dev nD) (x0 : Vec Ideal S8x1x4096 .bf16) (x1 : Vec Ideal S14336x2048 .i8) (x2 : Vec Ideal S14336x128 .i8)
    (h0 : m ((c : Thread nD τ).loc main_arg0) = x0) (h1 : m ((c : Thread nD τ).loc main_arg1) = x1)
    (h2 : m ((c : Thread nD τ).loc main_arg2) = x2) (b : Fin 8) (o : Fin 14336)
    (h : ∀ n : Fin 128, x2 (ix2 o n) ≠ (0 : BitVec 8) ∧ x2 (ix2 o n) ≠ (255 : BitVec 8)) :
    (shapeCast S8x1x14336 (outAt m c t0_0) shapeCasts_S8x14336_S8x1x14336 (ix3 b 0 o) : EReal)
      = ∑ k : Fin 4096, (x0 (ix3 b 0 k) : EReal)
      * (codeVal (nib (x1 (ix2 o ⟨k.val / 2, by omega⟩)) (k.val % 2)) * scaleVal (x2 (ix2 o ⟨k.val / 32, by omega⟩))) := by
  rw [← outAt_apply m c x0 x1 x2 h0 h1 h2 b o h]
  generalize outAt m c t0_0 = A
  pointwise

end Cert.KernelIdeal.Hand

end
-- ==== Proof.Value.Pre.lean ====
/- The precondition, read at an index: no scale code is at either end of its range. -/
module

public import proofs.«01_k».proof.Pre_scales_in_range
public import Idealize.ShloMosaic.Lib.Pointwise

@[expose] public section

set_option maxRecDepth 65536

noncomputable section

namespace Cert.Pre_scales_in_range.Hand

open Cert.Pre_scales_in_range
open Idealize.ShloMosaic

/-- The predicate's side conditions. -/
theorem facts : Cert.Pre_scales_in_range.Facts := ⟨by decide⟩

/-- One bit, both of whose factors decide something, is one exactly when both hold. -/
theorem of_and (a : BitVec 8) (h : IntOp.andi (IntOp.cmpi .ne a 0#8) (IntOp.cmpi .ne a 255#8) = 1#1) :
    a ≠ (0 : BitVec 8) ∧ a ≠ (255 : BitVec 8) := by
  revert a
  decide

theorem codes_ne [Cert.Pre_scales_in_range.Facts] (x0 : Vec Ideal S8x1x4096 .bf16) (x1 : Vec Ideal S14336x2048 .i8)
    (x2 : Vec Ideal S14336x128 .i8) (h : fn (F := Ideal) x0 x1 x2 = fun _ => 1#1) (o : Fin 14336) (n : Fin 128) :
    x2 (ix2 o n) ≠ (0 : BitVec 8) ∧ x2 (ix2 o n) ≠ (255 : BitVec 8) := by
  have e : fn (F := Ideal) x0 x1 x2 (ix2 o n)
      = IntOp.andi (IntOp.cmpi .ne (x2 (ix2 o n)) 0#8) (IntOp.cmpi .ne (x2 (ix2 o n)) 255#8) := by
    unfold fn
    pointwise
  exact of_and _ (e.symm.trans (congrFun h _))

end Cert.Pre_scales_in_range.Hand

end
-- ==== Proof.Value.Algebraic.lean ====
/- Over the extended reals the kernel and the reference end at the same result. -/
module

public import proofs.«01_k».proof.Defs
public import proofs.«01_k».proof.Proof.RefValue
public import proofs.«01_k».proof.Proof.Value.RefSum
public import proofs.«01_k».proof.Proof.Value.KernelSum
public import proofs.«01_k».proof.Proof.Value.Pre

@[expose] public section

set_option maxRecDepth 65536

noncomputable section

namespace Cert.Value

open Idealize.ShloMosaic Idealize.ShloMosaic.TcCoe Idealize.SL.Sem

/-- The two results are one array. -/
theorem results_eq [Cert.Pre_scales_in_range.Facts]
    (m : (ℓ : Loc Cert.KernelIdeal.nD Cert.KernelIdeal.τ Cert.KernelIdeal.sig) → Buf (Elt Ideal) ℓ)
    (hpre : Cert.Pre_KernelIdeal_scales_in_range m) (c : Dev Cert.KernelIdeal.nD) :
    Pipeline.afterTail₀ Cert.KernelIdeal.cfgs (Cert.KernelIdeal.Hand.dats m) 0 (Cert.KernelIdeal.Gen.V0 m) [Cert.KernelIdeal.Gen.hostOps1] c
        Cert.KernelIdeal.main_v2
      = Cert.ReferenceIdeal.Read.val_main_v46 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) := by
  refine (Cert.KernelIdeal.Hand.end_v2 m c).trans ?_
  have hcodes := Cert.Pre_scales_in_range.Hand.codes_ne _ _ _ (hpre c)
  funext j
  have e1 : j 1 = (0 : Fin 1) := Subsingleton.elim (α := Fin 1) _ _
  have ej : j = ix3 (j 0) (0 : Fin 1) (j 2) := (eq_ix3 j).trans (by rw [e1]; rfl)
  rw [ej]
  exact (Cert.KernelIdeal.Hand.end_apply m c _ _ _ rfl rfl rfl (j 0) (j 2) (hcodes (j 2))).trans
    (Cert.ReferenceIdeal.Hand.ref_apply _ _ _ (j 0) (j 2)).symm

theorem algebraic (hpre : Cert.Pre_scales_in_range.Facts) :
    Cert.algebraic_KernelIdeal_ReferenceIdeal_pre_scales_in_range (hKernelIdeal := Cert.KernelIdeal.Gen.facts)
      (hReferenceIdeal := Cert.ReferenceIdeal.Gen.facts) (hPre_scales_in_range := hpre) := by
  intro m g m' g' hm hargs
  refine ⟨fun c => Cert.ReferenceIdeal.Read.val_main_v46 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2)), ?_, ?_⟩
  · exact (θ_run _ _ _).mono (fun r h c => ⟨(h.1 c).2.trans (results_eq m hm c), (h.1 c).1⟩) (Cert.KernelIdeal.Hand.run_full m g)
  · refine (θ_run _ _ _).mono (fun r h c => ⟨(h c).1.trans ?_, (h c).2⟩) (Cert.ReferenceIdeal.Value.run m' g')
    refine (Cert.ReferenceIdeal.Read.val_main_v46_eq m' c).trans ?_
    obtain ⟨h0, h1, h2⟩ := hargs c
    rw [h0, h1, h2]

end Cert.Value

end
-- ==== Proof.lean ====
/- The claims, put together: each is proved in a module under Proof/ and cited here. -/
module

public import proofs.«01_k».proof.Defs
public import proofs.«01_k».proof.Proof.Frame
public import proofs.«01_k».proof.Proof.Ideal.Frame
public import proofs.«01_k».proof.Proof.RefValue
public import proofs.«01_k».proof.Proof.Value.Algebraic

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Pre_scales_in_range.Hand.facts,
  fun m g _ => Cert.Kernel.Hand.frame (F := Bits) m g, fun m g _ => Cert.KernelIdeal.Hand.frame (F := Ideal) m g,
  fun m g _ => Cert.KernelIdeal.Hand.frame (F := Ideal) m g,
  fun m g _ => Cert.ReferenceIdeal.Hand.frame (F := Ideal) m g, fun m g _ => Cert.ReferenceIdeal.Hand.frame (F := Ideal) m g,
  trivial, Cert.Value.algebraic Cert.Pre_scales_in_range.Hand.facts⟩

end Cert.Proof

end
